-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x1x2304 : Shape := ⟨3, ![3, 1, 2304]⟩
abbrev S288x8x9216 : Shape := ⟨3, ![288, 8, 9216]⟩
abbrev S8x256x8 : Shape := ⟨3, ![8, 256, 8]⟩
abbrev S9216 : Shape := ⟨1, ![9216]⟩
abbrev S3x72x4x8 : Shape := ⟨4, ![3, 72, 4, 8]⟩
abbrev S72x3x4x8 : Shape := ⟨4, ![72, 3, 4, 8]⟩
abbrev S2x2 : Shape := ⟨2, ![2, 2]⟩
abbrev S_ : Shape := ⟨0, ![]⟩
abbrev S72x3x4x1x1x8 : Shape := ⟨6, ![72, 3, 4, 1, 1, 8]⟩
abbrev S1x1x1x2x2x1 : Shape := ⟨6, ![1, 1, 1, 2, 2, 1]⟩
abbrev S72x3x4x2x2x8 : Shape := ⟨6, ![72, 3, 4, 2, 2, 8]⟩
abbrev S72x24x16 : Shape := ⟨3, ![72, 24, 16]⟩
abbrev S2x4x256x8 : Shape := ⟨4, ![2, 4, 256, 8]⟩
abbrev S2x8x4x256 : Shape := ⟨4, ![2, 8, 4, 256]⟩
abbrev S16x1024 : Shape := ⟨2, ![16, 1024]⟩
abbrev S2304x9216 : Shape := ⟨2, ![2304, 9216]⟩
abbrev S1x9216 : Shape := ⟨2, ![1, 9216]⟩
abbrev S3x9216 : Shape := ⟨2, ![3, 9216]⟩
abbrev S1x24x16 : Shape := ⟨3, ![1, 24, 16]⟩
abbrev S32x9216 : Shape := ⟨2, ![32, 9216]⟩
abbrev S3x8x9216 : Shape := ⟨3, ![3, 8, 9216]⟩
abbrev S24x16 : Shape := ⟨2, ![24, 16]⟩
abbrev S24x1024 : Shape := ⟨2, ![24, 1024]⟩
abbrev S32x128 : Shape := ⟨2, ![32, 128]⟩
abbrev S8x128 : Shape := ⟨2, ![8, 128]⟩
abbrev S1x8x128 : Shape := ⟨3, ![1, 8, 128]⟩
abbrev S8x128x1 : Shape := ⟨3, ![8, 128, 1]⟩
abbrev S1x8x9216 : Shape := ⟨3, ![1, 8, 9216]⟩
abbrev S8x9216 : Shape := ⟨2, ![8, 9216]⟩

abbrev nBuf : Space → Nat
  | .hbm => 25
  | .vmem => 8
  | .smem => 0
  | _ => 0

abbrev bufTy : (tb : Table) → Fin (tcTables nBuf tb) → BufTy
  | .hbm, ⟨0, _⟩ => ⟨S3x1x2304, .bf16⟩
  | .hbm, ⟨1, _⟩ => ⟨S288x8x9216, .i8⟩
  | .hbm, ⟨2, _⟩ => ⟨S8x256x8, .bf16⟩
  | .hbm, ⟨3, _⟩ => ⟨S9216, .f32⟩
  | .hbm, ⟨4, _⟩ => ⟨S3x72x4x8, .bf16⟩
  | .hbm, ⟨5, _⟩ => ⟨S72x3x4x8, .bf16⟩
  | .hbm, ⟨6, _⟩ => ⟨S2x2, .i32⟩
  | .hbm, ⟨7, _⟩ => ⟨S2x2, .i32⟩
  | .hbm, ⟨8, _⟩ => ⟨S_, .i32⟩
  | .hbm, ⟨9, _⟩ => ⟨S2x2, .i32⟩
  | .hbm, ⟨10, _⟩ => ⟨S2x2, .i32⟩
  | .hbm, ⟨11, _⟩ => ⟨S2x2, .i1⟩
  | .hbm, ⟨12, _⟩ => ⟨S2x2, .bf16⟩
  | .hbm, ⟨13, _⟩ => ⟨S72x3x4x1x1x8, .bf16⟩
  | .hbm, ⟨14, _⟩ => ⟨S1x1x1x2x2x1, .bf16⟩
  | .hbm, ⟨15, _⟩ => ⟨S72x3x4x2x2x8, .bf16⟩
  | .hbm, ⟨16, _⟩ => ⟨S72x3x4x2x2x8, .bf16⟩
  | .hbm, ⟨17, _⟩ => ⟨S72x3x4x2x2x8, .bf16⟩
  | .hbm, ⟨18, _⟩ => ⟨S72x24x16, .bf16⟩
  | .hbm, ⟨19, _⟩ => ⟨S2x4x256x8, .bf16⟩
  | .hbm, ⟨20, _⟩ => ⟨S2x8x4x256, .bf16⟩
  | .hbm, ⟨21, _⟩ => ⟨S16x1024, .bf16⟩
  | .hbm, ⟨22, _⟩ => ⟨S2304x9216, .i8⟩
  | .hbm, ⟨23, _⟩ => ⟨S1x9216, .f32⟩
  | .hbm, ⟨24, _⟩ => ⟨S3x9216, .bf16⟩
  | .local _ .vmem, ⟨0, _⟩ => ⟨S1x24x16, .bf16⟩
  | .local _ .vmem, ⟨1, _⟩ => ⟨S1x24x16, .bf16⟩
  | .local _ .vmem, ⟨2, _⟩ => ⟨S16x1024, .bf16⟩
  | .local _ .vmem, ⟨3, _⟩ => ⟨S32x9216, .i8⟩
  | .local _ .vmem, ⟨4, _⟩ => ⟨S32x9216, .i8⟩
  | .local _ .vmem, ⟨5, _⟩ => ⟨S1x9216, .f32⟩
  | .local _ .vmem, ⟨6, _⟩ => ⟨S3x9216, .bf16⟩
  | .local _ .vmem, ⟨7, _⟩ => ⟨S3x8x9216, .f32⟩
  | _, _ => ⟨S3x1x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![72], ![false]⟩

def k0_cond2 (i : grid0.Coords) : BitVec 1 :=
  let arg0 : BitVec 32 := BitVec.ofNat 32 (i 0).val
  let c71_i32 : BitVec 32 := 71#32
  let v20744 : BitVec 1 := Scalar.cmpi .eq arg0 c71_i32
  let v20745 : BitVec 32 := Scalar.extui v20744
  let c0_i32_5903 : BitVec 32 := 0#32
  let v20746 : BitVec 1 := Scalar.cmpi .ne v20745 c0_i32_5903
  v20746

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x24x16 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x9216 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x9216 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x9216 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S3x1x2304 : Shape := ⟨3, ![3, 1, 2304]⟩
abbrev S288x8x9216 : Shape := ⟨3, ![288, 8, 9216]⟩
abbrev S8x256x8 : Shape := ⟨3, ![8, 256, 8]⟩
abbrev S9216 : Shape := ⟨1, ![9216]⟩
abbrev S288 : Shape := ⟨1, ![288]⟩
abbrev S288x1x1 : Shape := ⟨3, ![288, 1, 1]⟩
abbrev S8 : Shape := ⟨1, ![8]⟩
abbrev S1x8x1 : Shape := ⟨3, ![1, 8, 1]⟩
abbrev S_ : Shape := ⟨0, ![]⟩
abbrev S288x8x1 : Shape := ⟨3, ![288, 8, 1]⟩
abbrev S3x288x8 : Shape := ⟨3, ![3, 288, 8]⟩
abbrev S3x9216 : Shape := ⟨2, ![3, 9216]⟩
abbrev S1x288x8 : Shape := ⟨3, ![1, 288, 8]⟩
abbrev S288x8 : Shape := ⟨2, ![288, 8]⟩
abbrev S288x8x256 : Shape := ⟨3, ![288, 8, 256]⟩
abbrev S589824 : Shape := ⟨1, ![589824]⟩
abbrev S288x8x9216x1 : Shape := ⟨4, ![288, 8, 9216, 1]⟩
abbrev S1x9216 : Shape := ⟨2, ![1, 9216]⟩

abbrev nBuf : Space → Nat
  | .hbm => 57
  | .vmem => 0
  | .smem => 0
  | _ => 0

abbrev bufTy : (tb : Table) → Fin (tcTables nBuf tb) → BufTy
  | .hbm, ⟨0, _⟩ => ⟨S3x1x2304, .bf16⟩
  | .hbm, ⟨1, _⟩ => ⟨S288x8x9216, .i8⟩
  | .hbm, ⟨2, _⟩ => ⟨S8x256x8, .bf16⟩
  | .hbm, ⟨3, _⟩ => ⟨S9216, .f32⟩
  | .hbm, ⟨4, _⟩ => ⟨S288, .i32⟩
  | .hbm, ⟨5, _⟩ => ⟨S288x1x1, .i32⟩
  | .hbm, ⟨6, _⟩ => ⟨S8, .i32⟩
  | .hbm, ⟨7, _⟩ => ⟨S1x8x1, .i32⟩
  | .hbm, ⟨8, _⟩ => ⟨S_, .i32⟩
  | .hbm, ⟨9, _⟩ => ⟨S288x1x1, .i32⟩
  | .hbm, ⟨10, _⟩ => ⟨S288x1x1, .i32⟩
  | .hbm, ⟨11, _⟩ => ⟨S288x8x1, .i32⟩
  | .hbm, ⟨12, _⟩ => ⟨S288x8x1, .i32⟩
  | .hbm, ⟨13, _⟩ => ⟨S288x8x1, .i32⟩
  | .hbm, ⟨14, _⟩ => ⟨S_, .i32⟩
  | .hbm, ⟨15, _⟩ => ⟨S288x8x1, .i32⟩
  | .hbm, ⟨16, _⟩ => ⟨S288x8x1, .i32⟩
  | .hbm, ⟨17, _⟩ => ⟨S288x8x9216, .i32⟩
  | .hbm, ⟨18, _⟩ => ⟨S288x8x9216, .i32⟩
  | .hbm, ⟨19, _⟩ => ⟨S288x8x9216, .i32⟩
  | .hbm, ⟨20, _⟩ => ⟨S3x288x8, .bf16⟩
  | .hbm, ⟨21, _⟩ => ⟨S_, .f32⟩
  | .hbm, ⟨22, _⟩ => ⟨S3x9216, .f32⟩
  | .hbm, ⟨23, _⟩ => ⟨S_, .i32⟩
  | .hbm, ⟨24, _⟩ => ⟨S3x288x8, .bf16⟩
  | .hbm, ⟨25, _⟩ => ⟨S8x256x8, .bf16⟩
  | .hbm, ⟨26, _⟩ => ⟨S288x8x9216, .i32⟩
  | .hbm, ⟨27, _⟩ => ⟨S_, .i32⟩
  | .hbm, ⟨28, _⟩ => ⟨S3x9216, .f32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S1x288x8, .bf16⟩
  | .hbm, ⟨34, _⟩ => ⟨S288x8, .bf16⟩
  | .hbm, ⟨35, _⟩ => ⟨S288x8x256, .f32⟩
  | .hbm, ⟨36, _⟩ => ⟨S589824, .f32⟩
  | .hbm, ⟨37, _⟩ => ⟨S_, .i32⟩
  | .hbm, ⟨38, _⟩ => ⟨S288x8x9216, .i32⟩
  | .hbm, ⟨39, _⟩ => ⟨S288x8x9216, .i1⟩
  | .hbm, ⟨40, _⟩ => ⟨S_, .i32⟩
  | .hbm, ⟨41, _⟩ => ⟨S288x8x9216, .i32⟩
  | .hbm, ⟨42, _⟩ => ⟨S288x8x9216, .i32⟩
  | .hbm, ⟨43, _⟩ => ⟨S288x8x9216, .i32⟩
  | .hbm, ⟨44, _⟩ => ⟨S288x8x9216x1, .i32⟩
  | .hbm, ⟨45, _⟩ => ⟨S288x8x9216, .f32⟩
  | .hbm, ⟨46, _⟩ => ⟨S_, .f32⟩
  | .hbm, ⟨47, _⟩ => ⟨S9216, .f32⟩
  | .hbm, ⟨48, _⟩ => ⟨S1x9216, .f32⟩
  | .hbm, ⟨49, _⟩ => ⟨S_, .i32⟩
  | .hbm, ⟨50, _⟩ => ⟨S3x9216, .f32⟩
  | .hbm, ⟨51, _⟩ => ⟨S_, .i32⟩
  | .hbm, ⟨52, _⟩ => ⟨S_, .i32⟩
  | .hbm, ⟨53, _⟩ => ⟨S1x9216, .f32⟩
  | .hbm, ⟨54, _⟩ => ⟨S3x9216, .f32⟩
  | .hbm, ⟨55, _⟩ => ⟨S3x9216, .f32⟩
  | .hbm, ⟨56, _⟩ => ⟨S3x9216, .bf16⟩
  | _, _ => ⟨S3x1x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_c_1 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev main_v16_3 : Ref sig .tc := ⟨.hbm, 27, rfl⟩
abbrev main_v16_4 : Ref sig .tc := ⟨.hbm, 28, rfl⟩
abbrev main_while0c_c_6 : Ref sig .tc := ⟨.hbm, 29, rfl⟩
abbrev main_while0c_v21 : Ref sig .tc := ⟨.hbm, 30, rfl⟩
abbrev main_while0b_call0_c : Ref sig .tc := ⟨.hbm, 31, rfl⟩
abbrev main_while0b_call0_c_0 : Ref sig .tc := ⟨.hbm, 32, rfl⟩
abbrev main_while0b_call0_v0 : Ref sig .tc := ⟨.hbm, 33, rfl⟩
abbrev main_while0b_v21 : Ref sig .tc := ⟨.hbm, 34, rfl⟩
abbrev main_while0b_v22 : Ref sig .tc := ⟨.hbm, 35, rfl⟩
abbrev main_while0b_v23 : Ref sig .tc := ⟨.hbm, 36, rfl⟩
abbrev main_while0b_c_6 : Ref sig .tc := ⟨.hbm, 37, rfl⟩
abbrev main_while0b_v24 : Ref sig .tc := ⟨.hbm, 38, rfl⟩
abbrev main_while0b_v25 : Ref sig .tc := ⟨.hbm, 39, rfl⟩
abbrev main_while0b_c_7 : Ref sig .tc := ⟨.hbm, 40, rfl⟩
abbrev main_while0b_v26 : Ref sig .tc := ⟨.hbm, 41, rfl⟩
abbrev main_while0b_v27 : Ref sig .tc := ⟨.hbm, 42, rfl⟩
abbrev main_while0b_v28 : Ref sig .tc := ⟨.hbm, 43, rfl⟩
abbrev main_while0b_v29 : Ref sig .tc := ⟨.hbm, 44, rfl⟩
abbrev main_while0b_v30 : Ref sig .tc := ⟨.hbm, 45, rfl⟩
abbrev main_while0b_cst_8 : Ref sig .tc := ⟨.hbm, 46, rfl⟩
abbrev main_while0b_v31 : Ref sig .tc := ⟨.hbm, 47, rfl⟩
abbrev main_while0b_call1_v0 : Ref sig .tc := ⟨.hbm, 48, rfl⟩
abbrev main_while0b_call1_c : Ref sig .tc := ⟨.hbm, 49, rfl⟩
abbrev main_while0b_v32 : Ref sig .tc := ⟨.hbm, 50, rfl⟩
abbrev main_while0b_c_9 : Ref sig .tc := ⟨.hbm, 51, rfl⟩
abbrev main_while0b_v33 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩

abbrev nD : Nat := 1
abbrev τ : Topo := Topo.v7x

variable {F : FTy → Type} [FloatOps F]

abbrev main_while0_count : Scf.Loop 32 := ⟨0#32, 3#32, 1#32⟩
-- ==== Proof.Step.lean ====
/-
  WHAT ONE GRID POINT STORES, WRITTEN ONCE. The kernel's body visits the 72 column tiles of the accumulator in turn and,
  in each, updates the three tokens' `[8, 128]` tiles: the run of a point therefore finds 216 stores. This module writes
  those stores by recursion on the column (`pieces`), each store's payload by one definition of the column and the token
  (`colPay`), and shows that what the generated runs found is exactly that.
-/
module

public import proofs.«01_k».proof.Proof.Gen.KernelIdeal.Frame

@[expose] public section

set_option maxRecDepth 100000

noncomputable section

namespace Cert.KernelIdeal.Step

open Idealize.ShloMosaic Idealize.ShloMosaic.TcCoe Idealize.SL.Sem
open Cert.KernelIdeal Cert.KernelIdeal.Gen

variable {F : FTy → Type} [FloatOps F]

/-- Token `tt`'s tile of column tile `n` lies inside the accumulator. -/
theorem inbAcc (tt n : ℕ) (ht : tt < 3) (hn : n < 72) :
    ∀ a : Fin 3, ![tt, 0, 128 * n] a + S1x8x128.size a ≤ S3x8x9216.size a := fun a => by
  match a with
  | ⟨0, _⟩ => show tt + 1 ≤ 3; omega
  | ⟨1, _⟩ => show 0 + 8 ≤ 8; omega
  | ⟨2, _⟩ => show 128 * n + 128 ≤ 9216; omega

/-- Column tile `n` of the codes lies inside the block of codes. -/
theorem inbCodes (n : ℕ) (hn : n < 72) :
    ∀ a : Fin 2, ![0, 128 * n] a + S32x128.size a ≤ S32x9216.size a := fun a => by
  match a with
  | ⟨0, _⟩ => show 0 + 32 ≤ 32; omega
  | ⟨1, _⟩ => show 128 * n + 128 ≤ 9216; omega

/-- Token `tt`'s half table starting at lane `l` lies inside the table of products. -/
theorem slicesTab (tt l : ℕ) (ht : tt < 3) (hl : l + 128 ≤ 1024) : S24x1024.Slices ![8 * tt, l] S8x128 :=
  ⟨rfl, fun a => by
    match a with
    | ⟨0, _⟩ => show 8 * tt + 8 ≤ 24; omega
    | ⟨1, _⟩ => show l + 128 ≤ 1024; omega⟩

/-- Token `tt`'s tile of column tile `n` of the accumulator. -/
abbrev accRect (tt n : ℕ) (ht : tt < 3) (hn : n < 72) : Rect S3x8x9216 :=
  Rect.unit ![tt, 0, 128 * n] S1x8x128.size (inbAcc tt n ht hn)

/-- Column tile `n` of the codes. -/
abbrev codeRect (n : ℕ) (hn : n < 72) : Rect S32x9216 :=
  Rect.unit ![0, 128 * n] S32x128.size (inbCodes n hn)

/-- The word whose low byte is byte `b` of each word. -/
def byteWord (w : IVec S8x128 32) : ℕ → IVec S8x128 32
  | 0 => w
  | b + 1 => shrui w (broadcast S8x128 (BitVec.ofNat 32 (8 * (b + 1))))

/-- The entries a half table of 128 lanes holds at the lane numbers `lo`. -/
def look (half : FVec F S8x128 .f32) (lo : IVec S8x128 32) : FVec F S8x128 .f32 :=
  dynamicGather 1 half
    (shapeCast S8x128 (shapeCast S8x128x1
      (select (cmpi .slt lo (broadcast S8x128 0#32)) (addi lo (broadcast S8x128 128#32)) lo) shapeCasts_S8x128_S8x128x1)
      shapeCasts_S8x128x1_S8x128)

/-- One byte's contribution added: the byte's low seven bits select a lane of the lower or, by its top bit, of the upper
    half of token `tt`'s table for byte `b`. -/
def addByte (tab : FVec F S24x1024 .f32) (w : IVec S8x128 32) (tt b : ℕ) (ht : tt < 3) (hb : b < 4)
    (acc : FVec F S8x128 .f32) : FVec F S8x128 .f32 :=
  addf acc
    (select (cmpi .ne (andi (byteWord w b) (broadcast S8x128 128#32)) (broadcast S8x128 0#32))
      (look (extractStridedSlice S8x128 ![8 * tt, 256 * b + 128] tab (slicesTab tt (256 * b + 128) ht (by omega)))
        (andi (byteWord w b) (broadcast S8x128 127#32)))
      (look (extractStridedSlice S8x128 ![8 * tt, 256 * b] tab (slicesTab tt (256 * b) ht (by omega)))
        (andi (byteWord w b) (broadcast S8x128 127#32))))

/-- The codes of a column tile, four rows to a word. -/
def words (cd : Vec F S32x128 .i8) : IVec S8x128 32 :=
  bitcast S8x128 32 (shapeCast S32x128 cd shapeCasts_S32x128_S32x128 : IVec S32x128 8) bitcasts_S32x128_w8_S8x128_w32

/-- What token `tt`'s tile is left holding, over what it held: the four bytes' contributions added in turn. -/
def colPay (tab : FVec F S24x1024 .f32) (cd : Vec F S32x128 .i8) (tt : ℕ) (ht : tt < 3) (old : Vec F S1x8x128 .f32) :
    FVec F S1x8x128 .f32 :=
  shapeCast S1x8x128
    (addByte tab (words cd) tt 3 ht (by decide) (addByte tab (words cd) tt 2 ht (by decide)
      (addByte tab (words cd) tt 1 ht (by decide) (addByte tab (words cd) tt 0 ht (by decide)
        (shapeCast S8x128 old shapeCasts_S1x8x128_S8x128))))) shapeCasts_S8x128_S1x8x128

/-- The stores of the first `n` column tiles over the earlier stores `base`, last first: `cd` the codes of a column tile,
    `old` what a tile is read as after a list of stores. -/
def pieces (tab : FVec F S24x1024 .f32) (cd : (n : ℕ) → n < 72 → Vec F S32x128 .i8)
    (old : List (View.Piece (Elt F) S3x8x9216 .f32) → (tt n : ℕ) → tt < 3 → n < 72 → Vec F S1x8x128 .f32)
    (base : List (View.Piece (Elt F) S3x8x9216 .f32)) :
    (n : ℕ) → n ≤ 72 → List (View.Piece (Elt F) S3x8x9216 .f32)
  | 0, _ => base
  | n + 1, h =>
    ⟨accRect 2 n (by decide) h, colPay tab (cd n h) 2 (by decide)
        (old (pieces tab cd old base n (Nat.le_of_succ_le h)) 2 n (by decide) h)⟩ ::
    ⟨accRect 1 n (by decide) h, colPay tab (cd n h) 1 (by decide)
        (old (pieces tab cd old base n (Nat.le_of_succ_le h)) 1 n (by decide) h)⟩ ::
    ⟨accRect 0 n (by decide) h, colPay tab (cd n h) 0 (by decide)
        (old (pieces tab cd old base n (Nat.le_of_succ_le h)) 0 n (by decide) h)⟩ ::
    pieces tab cd old base n (Nat.le_of_succ_le h)

/-- The middle points' stores are the 216 updates over what the point before left. -/
theorem runB_eq (c : Dev nD) (i : grid0.Coords) (arg1 : Memref sig .tc .vmem S1x24x16 .bf16) (harg1 : arg1.IsWhole) (arg2 : Memref sig .tc .vmem S16x1024 .bf16) (harg2 : arg2.IsWhole) (arg3 : Memref sig .tc .vmem S32x9216 .i8) (harg3 : arg3.IsWhole) (arg4 : Memref sig .tc .vmem S1x9216 .f32) (harg4 : arg4.IsWhole) (arg5 : Memref sig .tc .vmem S3x9216 .bf16) (harg5 : arg5.IsWhole) (arg6 : Memref sig .tc .vmem S3x8x9216 .f32) (harg6 : arg6.IsWhole) (hc0 : ¬cond0_0 i) (hc1 : ¬cond0_1 i)
    (x0 : Vec F S1x24x16 .bf16) (x1 : Vec F S16x1024 .bf16) (x2 : Vec F S32x9216 .i8) (x3 : Vec F S1x9216 .f32) (xs0 : Vec F S3x8x9216 .f32) :
    (kernelRun0_B c i arg1 harg1 arg2 harg2 arg3 harg3 arg4 harg4 arg5 harg5 arg6 harg6 hc0 hc1 x0 x1 x2 x3 xs0).2.1
      = pieces
          (k0_pay4
            (View.readAt (Elt F) arg1.view (Rect.unit ![0, 0, 0] S1x24x16.size inb_S1x24x16_S1x24x16_0_0_0).toLoadRect (harg1.unread x0))
            (View.readAt (Elt F) arg2.view (Rect.unit ![0, 0] S16x1024.size inb_S16x1024_S16x1024_0_0).toLoadRect (harg2.unread x1)))
          (fun n hn => View.readAt (Elt F) arg3.view (codeRect n hn).toLoadRect (harg3.unread x2))
          (fun _ tt n ht hn => View.readAt (Elt F) arg6.view (accRect tt n ht hn).toLoadRect (harg6.unread xs0))
          [] 72 (le_refl 72) := by
  sl_kernel_rfl

/-- The first point's stores are the whole accumulator set to zero, then the 216 updates, each over what it reads back of
    the stores before it. -/
theorem runA_eq (c : Dev nD) (i : grid0.Coords) (arg1 : Memref sig .tc .vmem S1x24x16 .bf16) (harg1 : arg1.IsWhole) (arg2 : Memref sig .tc .vmem S16x1024 .bf16) (harg2 : arg2.IsWhole) (arg3 : Memref sig .tc .vmem S32x9216 .i8) (harg3 : arg3.IsWhole) (arg4 : Memref sig .tc .vmem S1x9216 .f32) (harg4 : arg4.IsWhole) (arg5 : Memref sig .tc .vmem S3x9216 .bf16) (harg5 : arg5.IsWhole) (arg6 : Memref sig .tc .vmem S3x8x9216 .f32) (harg6 : arg6.IsWhole) (hc0 : cond0_0 i) (hc1 : ¬cond0_1 i)
    (x0 : Vec F S1x24x16 .bf16) (x1 : Vec F S16x1024 .bf16) (x2 : Vec F S32x9216 .i8) (x3 : Vec F S1x9216 .f32) :
    (kernelRun0_A c i arg1 harg1 arg2 harg2 arg3 harg3 arg4 harg4 arg5 harg5 arg6 harg6 hc0 hc1 x0 x1 x2 x3).2.1
      = pieces
          (k0_pay4
            (View.readAt (Elt F) arg1.view (Rect.unit ![0, 0, 0] S1x24x16.size inb_S1x24x16_S1x24x16_0_0_0).toLoadRect (harg1.unread x0))
            (View.readAt (Elt F) arg2.view (Rect.unit ![0, 0] S16x1024.size inb_S16x1024_S16x1024_0_0).toLoadRect (harg2.unread x1)))
          (fun n hn => View.readAt (Elt F) arg3.view (codeRect n hn).toLoadRect (harg3.unread x2))
          (fun L tt n ht hn => arg6.view.readCov L (accRect tt n ht hn).toLoadRect)
          [⟨Rect.unit ![0, 0, 0] S3x8x9216.size inb_S3x8x9216_S3x8x9216_0_0_0, k0_pay3⟩] 72 (le_refl 72) := by
  sl_kernel_rfl

/-- Token `tt`'s rows lie inside the accumulator. -/
theorem inbRow (tt : ℕ) (ht : tt < 3) : ∀ a : Fin 3, ![tt, 0, 0] a + S1x8x9216.size a ≤ S3x8x9216.size a := fun a => by
  match a with
  | ⟨0, _⟩ => show tt + 1 ≤ 3; omega
  | ⟨1, _⟩ => show 0 + 8 ≤ 8; omega
  | ⟨2, _⟩ => show 0 + 9216 ≤ 9216; omega

/-- Token `tt`'s rows of the accumulator. -/
abbrev rowRect (tt : ℕ) (ht : tt < 3) : Rect S3x8x9216 :=
  Rect.unit ![tt, 0, 0] S1x8x9216.size (inbRow tt ht)

/-- The last point's stores to the accumulator are the 216 updates over what the point before left. -/
theorem runC_eq (c : Dev nD) (i : grid0.Coords) (arg1 : Memref sig .tc .vmem S1x24x16 .bf16) (harg1 : arg1.IsWhole) (arg2 : Memref sig .tc .vmem S16x1024 .bf16) (harg2 : arg2.IsWhole) (arg3 : Memref sig .tc .vmem S32x9216 .i8) (harg3 : arg3.IsWhole) (arg4 : Memref sig .tc .vmem S1x9216 .f32) (harg4 : arg4.IsWhole) (arg5 : Memref sig .tc .vmem S3x9216 .bf16) (harg5 : arg5.IsWhole) (arg6 : Memref sig .tc .vmem S3x8x9216 .f32) (harg6 : arg6.IsWhole) (hc0 : ¬cond0_0 i) (hc1 : cond0_1 i)
    (x0 : Vec F S1x24x16 .bf16) (x1 : Vec F S16x1024 .bf16) (x2 : Vec F S32x9216 .i8) (x3 : Vec F S1x9216 .f32) (xs0 : Vec F S3x8x9216 .f32) :
    (kernelRun0_C c i arg1 harg1 arg2 harg2 arg3 harg3 arg4 harg4 arg5 harg5 arg6 harg6 hc0 hc1 x0 x1 x2 x3 xs0).2.1
      = pieces
          (k0_pay4
            (View.readAt (Elt F) arg1.view (Rect.unit ![0, 0, 0] S1x24x16.size inb_S1x24x16_S1x24x16_0_0_0).toLoadRect (harg1.unread x0))
            (View.readAt (Elt F) arg2.view (Rect.unit ![0, 0] S16x1024.size inb_S16x1024_S16x1024_0_0).toLoadRect (harg2.unread x1)))
          (fun n hn => View.readAt (Elt F) arg3.view (codeRect n hn).toLoadRect (harg3.unread x2))
          (fun _ tt n ht hn => View.readAt (Elt F) arg6.view (accRect tt n ht hn).toLoadRect (harg6.unread xs0))
          [] 72 (le_refl 72) := by
  sl_kernel_rfl

/-- The last point's one store of the result: `k0_pay2` of each token's rows of the accumulator, read back from the
    point's own stores, and of the scales. -/
theorem outC_eq (c : Dev nD) (i : grid0.Coords) (arg1 : Memref sig .tc .vmem S1x24x16 .bf16) (harg1 : arg1.IsWhole) (arg2 : Memref sig .tc .vmem S16x1024 .bf16) (harg2 : arg2.IsWhole) (arg3 : Memref sig .tc .vmem S32x9216 .i8) (harg3 : arg3.IsWhole) (arg4 : Memref sig .tc .vmem S1x9216 .f32) (harg4 : arg4.IsWhole) (arg5 : Memref sig .tc .vmem S3x9216 .bf16) (harg5 : arg5.IsWhole) (arg6 : Memref sig .tc .vmem S3x8x9216 .f32) (harg6 : arg6.IsWhole) (hc0 : ¬cond0_0 i) (hc1 : cond0_1 i)
    (x0 : Vec F S1x24x16 .bf16) (x1 : Vec F S16x1024 .bf16) (x2 : Vec F S32x9216 .i8) (x3 : Vec F S1x9216 .f32) (xs0 : Vec F S3x8x9216 .f32) :
    (kernelRun0_C c i arg1 harg1 arg2 harg2 arg3 harg3 arg4 harg4 arg5 harg5 arg6 harg6 hc0 hc1 x0 x1 x2 x3 xs0).1
      = [⟨Rect.unit ![0, 0] S3x9216.size inb_S3x9216_S3x9216_0_0,
          k0_pay2
            (arg6.view.readCov (kernelRun0_C c i arg1 harg1 arg2 harg2 arg3 harg3 arg4 harg4 arg5 harg5 arg6 harg6 hc0 hc1 x0 x1 x2 x3 xs0).2.1 (rowRect 0 (by decide)).toLoadRect)
            (View.readAt (Elt F) arg4.view (Rect.unit ![0, 0] S1x9216.size inb_S1x9216_S1x9216_0_0).toLoadRect (harg4.unread x3))
            (arg6.view.readCov (kernelRun0_C c i arg1 harg1 arg2 harg2 arg3 harg3 arg4 harg4 arg5 harg5 arg6 harg6 hc0 hc1 x0 x1 x2 x3 xs0).2.1 (rowRect 1 (by decide)).toLoadRect)
            (View.readAt (Elt F) arg4.view (Rect.unit ![0, 0] S1x9216.size inb_S1x9216_S1x9216_0_0).toLoadRect (harg4.unread x3))
            (arg6.view.readCov (kernelRun0_C c i arg1 harg1 arg2 harg2 arg3 harg3 arg4 harg4 arg5 harg5 arg6 harg6 hc0 hc1 x0 x1 x2 x3 xs0).2.1 (rowRect 2 (by decide)).toLoadRect)
            (View.readAt (Elt F) arg4.view (Rect.unit ![0, 0] S1x9216.size inb_S1x9216_S1x9216_0_0).toLoadRect (harg4.unread x3))⟩] := by
  sl_kernel_rfl

end Cert.KernelIdeal.Step
end
-- ==== Proof.Pay.lean ====
/-
  WHAT ONE UPDATE ADDS. A word of four codes is split into its bytes; a byte's low seven bits select a lane of one half of
  a table of 256 entries and its top bit the half, so together they select the entry the code names. Hence a tile is left
  holding what it held plus, for each of the word's four codes, the table's entry at that code (`colPay_apply`).
-/
module

public import proofs.«01_k».proof.Proof.Step
public import Idealize.ShloMosaic.Lib.Pointwise
public import Idealize.ShloMosaic.Lib.BitcastFour

@[expose] public section

set_option maxRecDepth 16384

noncomputable section

namespace Cert.KernelIdeal.Step

open Idealize.ShloMosaic Idealize.ShloMosaic.TcCoe Idealize.SL.Sem
open Cert.KernelIdeal Cert.KernelIdeal.Gen

/-- Masking to seven bits, of a word whose low byte is `k`: `k` modulo 128. -/
theorem and_127 (v : BitVec 32) (k : BitVec 8) (h : v.setWidth 8 = k) : (v &&& 127#32).toNat = k.toNat % 128 := by
  subst h
  rw [BitVec.toNat_and, BitVec.toNat_setWidth, show (127#32).toNat = 2 ^ 7 - 1 from rfl, Nat.and_two_pow_sub_one_eq_mod]
  omega

/-- The bit of weight 128, of a word whose low byte is `k`, is set exactly when `k` is at least 128. -/
theorem and_128 (v : BitVec 32) (k : BitVec 8) (h : v.setWidth 8 = k) : (v &&& 128#32 != 0#32) = decide (128 ≤ k.toNat) := by
  subst h
  have e : v.getLsbD 7 = decide (128 ≤ (v.setWidth 8).toNat) := by
    have h1 : (v.setWidth 8).msb = v.getLsbD 7 := by
      simp [BitVec.msb_eq_getLsbD_last, BitVec.getLsbD_setWidth]
    rw [← h1, BitVec.msb_eq_decide]
  rw [← e, show (128#32 : BitVec 32) = BitVec.twoPow 32 7 from rfl, BitVec.and_twoPow]
  cases v.getLsbD 7 <;> rfl

/-- A word of seven bits is not negative. -/
theorem not_slt_zero (v : BitVec 32) (h : v.toNat < 128) : v.slt 0#32 = false := by
  have : v.toInt = v.toNat := by
    rw [BitVec.toInt_eq_toNat_cond, if_pos (by omega)]
  rw [BitVec.slt, this]
  simp

/-- Byte `b` of word row `r` of a column tile of codes is the code of row `4r + b`. -/
theorem byte_eq (cd : Vec Ideal S32x128 .i8) (r : Fin 8) (l : Fin 128) (b : ℕ) (hb : b < 4) :
    (byteWord (words (F := Ideal) cd) b (ix2 r l)).setWidth 8 = (cd (ix2 ⟨4 * r.val + b, by omega⟩ l) : BitVec 8) := by
  have hw : ∀ (q : ℕ) (hq : q < 32), (words (F := Ideal) cd (ix2 r l)).getLsbD q
      = (cd (ix2 ⟨4 * r.val + q / 8, by omega⟩ l) : BitVec 8).getLsbD (q % 8) := fun q hq => by
    unfold words
    rw [shapeCast_self]
    exact bitcast_8_32_getLsbD_ix2 cd _ r l q hq _ rfl
  have hv : byteWord (words (F := Ideal) cd) b (ix2 r l) = (words (F := Ideal) cd (ix2 r l)) >>> (8 * b) := by
    cases b with
    | zero => rfl
    | succ b =>
      show IntOp.shrui .vector _ (BitVec.ofNat 32 (8 * (b + 1))) = _
      have hn : (BitVec.ofNat 32 (8 * (b + 1))).toNat = 8 * (b + 1) := by
        rw [BitVec.toNat_ofNat]; exact Nat.mod_eq_of_lt (by omega)
      unfold IntOp.shrui
      rw [if_pos (by rw [hn]; omega), BitVec.ushiftRight_eq', hn]
  rw [hv]
  apply BitVec.eq_of_getLsbD_eq
  intro i hi
  rw [BitVec.getLsbD_setWidth, BitVec.getLsbD_ushiftRight, hw _ (by omega)]
  have e1 : (8 * b + i) / 8 = b := by omega
  have e2 : (8 * b + i) % 8 = i := by omega
  simp only [e1, e2, hi, decide_true, Bool.true_and]

/-- A half table looked up at lane numbers below 128. -/
theorem look_apply (half : FVec Ideal S8x128 .f32) (lo : IVec S8x128 32) (r : Fin 8) (l : Fin 128)
    (h : (lo (ix2 r l)).toNat < 128) : look half lo (ix2 r l) = half (ix2 r ⟨(lo (ix2 r l)).toNat, h⟩) := by
  unfold look
  have e : Scalar.select (IntOp.cmpi .slt (lo (ix2 r l)) 0#32) (IntOp.addi (lo (ix2 r l)) 128#32) (lo (ix2 r l))
      = lo (ix2 r l) := by
    unfold IntOp.cmpi
    dsimp only
    rw [not_slt_zero _ h]
    rfl
  pointwise
  exact congrArg half (congrArg (ix2 r) (Fin.ext ((congrArg (fun v : BitVec 32 => v.toNat % 128) e).trans (Nat.mod_eq_of_lt h))))

/-- The table entry that byte `b`'s code of column tile `cd` names for token `tt`, at word row `r` and lane `l`. -/
def entryAt (tab : FVec Ideal S24x1024 .f32) (k : BitVec 8) (tt b : ℕ) (ht : tt < 3) (hb : b < 4) (r : Fin 8) : EReal :=
  tab (ix2 ⟨8 * tt + r.val, by omega⟩ ⟨256 * b + k.toNat, by have := k.isLt; omega⟩)

/-- One byte's contribution at a word: the table's entry its code names. -/
theorem addByte_apply (tab : FVec Ideal S24x1024 .f32) (cd : Vec Ideal S32x128 .i8) (tt b : ℕ) (ht : tt < 3) (hb : b < 4)
    (acc : FVec Ideal S8x128 .f32) (r : Fin 8) (l : Fin 128) :
    addByte tab (words (F := Ideal) cd) tt b ht hb acc (ix2 r l)
      = acc (ix2 r l) + entryAt tab (cd (ix2 ⟨4 * r.val + b, by omega⟩ l)) tt b ht hb r := by
  have hk := byte_eq cd r l b hb
  generalize (cd (ix2 ⟨4 * r.val + b, by omega⟩ l) : BitVec 8) = k at hk ⊢
  have h7 := and_127 _ _ hk
  have h8 := and_128 _ _ hk
  have hlo : (andi (byteWord (words (F := Ideal) cd) b) (broadcast S8x128 127#32) (ix2 r l)).toNat = k.toNat % 128 := h7
  have hlo' : (IntOp.andi (byteWord (words (F := Ideal) cd) b (ix2 r l)) 127#32).toNat = k.toNat % 128 := h7
  have hlt : (andi (byteWord (words (F := Ideal) cd) b) (broadcast S8x128 127#32) (ix2 r l)).toNat < 128 := by
    rw [hlo]; exact Nat.mod_lt _ (by decide)
  have hc : cmpi .ne (andi (byteWord (words (F := Ideal) cd) b) (broadcast S8x128 128#32)) (broadcast S8x128 0#32) (ix2 r l)
      = BitVec.ofBool (decide (128 ≤ k.toNat)) := congrArg BitVec.ofBool h8
  unfold addByte
  show acc (ix2 r l) + Scalar.select _ _ _ = _
  rw [hc, look_apply _ _ r l hlt, look_apply _ _ r l hlt]
  refine congrArg (acc (ix2 r l) + ·) ?_
  unfold entryAt
  have hk256 := k.isLt
  by_cases hge : 128 ≤ k.toNat
  · rw [decide_eq_true hge]
    refine Eq.trans (b := extractStridedSlice S8x128 ![8 * tt, 256 * b + 128] tab (slicesTab tt (256 * b + 128) ht (by omega)) (ix2 r ⟨_, hlt⟩)) rfl ?_
    pointwise
    exact congrArg tab (congrArg₂ ix2 (Fin.ext rfl) (Fin.ext (by show 256 * b + 128 + _ = _; rw [hlo']; dsimp only; omega)))
  · rw [decide_eq_false hge]
    refine Eq.trans (b := extractStridedSlice S8x128 ![8 * tt, 256 * b] tab (slicesTab tt (256 * b) ht (by omega)) (ix2 r ⟨_, hlt⟩)) rfl ?_
    pointwise
    exact congrArg tab (congrArg₂ ix2 (Fin.ext rfl) (Fin.ext (by show 256 * b + _ = _; rw [hlo']; dsimp only; omega)))

/-- A tile is left holding what it held plus the table's entries that its four codes name. -/
theorem colPay_apply (tab : FVec Ideal S24x1024 .f32) (cd : Vec Ideal S32x128 .i8) (tt : ℕ) (ht : tt < 3)
    (old : Vec Ideal S1x8x128 .f32) (r : Fin 8) (l : Fin 128) :
    colPay (F := Ideal) tab cd tt ht old (ix3 0 r l)
      = (old (ix3 0 r l) : EReal)
        + ∑ b : Fin 4, entryAt tab (cd (ix2 ⟨4 * r.val + b.val, by omega⟩ l)) tt b.val ht b.isLt r := by
  unfold colPay
  pointwise [addByte_apply]
  rw [Fin.sum_univ_four]
  simp only [add_assoc]
  rfl

end Cert.KernelIdeal.Step
end
-- ==== Proof.Canon.lean ====
/-
  WHAT A GRID POINT LEAVES IN THE ACCUMULATOR. The 216 updates of a point read back as one array: every cell holds what it
  held plus the table's entries that its four codes name (`next`) — at the middle and last points over what the point before
  left, at the first point over zero. The last point's result follows: the eight rows of each token's accumulator summed and
  scaled.
-/
module

public import proofs.«01_k».proof.Proof.Pay
public import Idealize.ShloMosaic.Lib.Pipeline.Value

@[expose] public section

set_option maxRecDepth 16384

noncomputable section

namespace Cert.KernelIdeal.Step

open Idealize.ShloMosaic Idealize.ShloMosaic.TcCoe Idealize.SL.Sem
open Cert.KernelIdeal Cert.KernelIdeal.Gen

/-- Where token `tt`'s tile of column tile `n` puts its cells. -/
theorem accRect_emb (tt n : ℕ) (ht : tt < 3) (hn : n < 72) (r : Fin 8) (l : Fin 128) :
    (accRect tt n ht hn).emb (ix3 (0 : Fin 1) r l : S1x8x128.Idx)
      = (ix3 (⟨tt, ht⟩ : Fin 3) r (⟨128 * n + l.val, by omega⟩ : Fin 9216) : S3x8x9216.Idx) := by
  funext a
  match a with
  | ⟨0, _⟩ => exact Fin.ext (by show tt + 1 * 0 = tt; omega)
  | ⟨1, _⟩ => exact Fin.ext (by show 0 + 1 * r.val = r.val; omega)
  | ⟨2, _⟩ => exact Fin.ext (by show 128 * n + 1 * l.val = 128 * n + l.val; omega)

/-- A tile's cells, as a row and a lane. -/
theorem tile_idx (x : S1x8x128.Idx) : x = ix3 (0 : Fin 1) (x 1 : Fin 8) (x 2 : Fin 128) := by
  funext a
  match a with
  | ⟨0, _⟩ => exact Fin.ext (Nat.lt_one_iff.mp (x 0).isLt)
  | ⟨1, _⟩ => rfl
  | ⟨2, _⟩ => rfl

/-- Which cells token `tt`'s tile of column tile `n` holds. -/
theorem mem_accRect (tt n : ℕ) (ht : tt < 3) (hn : n < 72) (y : S3x8x9216.Idx) :
    y ∈ (accRect tt n ht hn).set ↔ (y 0).val = tt ∧ 128 * n ≤ (y 2).val ∧ (y 2).val < 128 * n + 128 := by
  have h1 : (y 1).val < 8 := (y 1).isLt
  rw [Rect.mem_set_unit]
  constructor
  · intro h
    have a := h 0
    have b := h 2
    exact ⟨le_antisymm (Nat.lt_succ_iff.mp a.2) a.1, b.1, b.2⟩
  · rintro ⟨a, b, d⟩ ax
    match ax with
    | ⟨0, _⟩ => exact ⟨a.ge, Nat.lt_succ_iff.mpr a.le⟩
    | ⟨1, _⟩ => exact ⟨Nat.zero_le _, by show (y 1).val < 0 + 8; omega⟩
    | ⟨2, _⟩ => exact ⟨b, d⟩

/-- A tile left of a lane does not hold it. -/
theorem not_mem_accRect (tt n : ℕ) (ht : tt < 3) (hn : n < 72) (y : S3x8x9216.Idx) (h : 128 * n + 128 ≤ (y 2).val) :
    y ∉ (accRect tt n ht hn).set := fun hm => Nat.not_lt.mpr h ((mem_accRect tt n ht hn y).1 hm).2.2

/-- A rectangle stored over other stores reads back as `G` wherever it holds `G` and, outside it, the others do. -/
theorem canon_cons_of {s : Shape} {e : EltTy} {Val : EltTy → Type} [∀ e, Nonempty (Val e)] (R : Rect s) (w : R.shape.Idx → Val e)
    (G : s.Idx → Val e) (hw : ∀ x, w x = G (R.emb x)) (L : List (View.Piece Val s e)) (y : s.Idx)
    (hL : y ∉ R.set → View.canon L y = G y) : View.canon (⟨R, w⟩ :: L) y = G y := by
  by_cases hm : y ∈ R.set
  · obtain ⟨x, rfl⟩ := R.exists_idx_of_mem hm
    exact (View.canon_cons_emb R w L x).trans (hw x)
  · exact (View.canon_cons_of_not_mem _ _ hm).trans (hL hm)

/-- A rectangle stored over other stores does not change what is read outside it. -/
theorem canon_cons_out {s : Shape} {e : EltTy} {Val : EltTy → Type} [∀ e, Nonempty (Val e)] (R : Rect s) (w : R.shape.Idx → Val e)
    (L : List (View.Piece Val s e)) (y : s.Idx) (h : y ∉ R.set) : View.canon (⟨R, w⟩ :: L) y = View.canon L y :=
  View.canon_cons_of_not_mem _ _ h

/-- A tile stored over other stores reads back as `G` wherever it holds `G` and, outside it, the others do. -/
theorem canon_cons_tile (tt n : ℕ) (ht : tt < 3) (hn : n < 72) (w : Vec Ideal S1x8x128 .f32) {G : Vec Ideal S3x8x9216 .f32}
    (hw : ∀ (r : Fin 8) (l : Fin 128), w (ix3 (0 : Fin 1) r l) = G (ix3 (⟨tt, ht⟩ : Fin 3) r (⟨128 * n + l.val, by omega⟩ : Fin 9216)))
    (L : List (View.Piece (Elt Ideal) S3x8x9216 .f32)) (y : S3x8x9216.Idx)
    (hL : y ∉ (accRect tt n ht hn).set → View.canon L y = G y) :
    View.canon (⟨accRect tt n ht hn, w⟩ :: L) y = G y := by
  have key : ∀ x : S1x8x128.Idx, w x = G ((accRect tt n ht hn).emb x) := fun x => by
    obtain ⟨r, l, rfl⟩ : ∃ (r : Fin 8) (l : Fin 128), x = ix3 (0 : Fin 1) r l := ⟨_, _, tile_idx x⟩
    exact (hw r l).trans (congrArg G (accRect_emb tt n ht hn r l).symm)
  exact canon_cons_of (accRect tt n ht hn) w G key L y hL

/-- A tile stored left of a lane does not change what is read there. -/
theorem canon_cons_right (tt n : ℕ) (ht : tt < 3) (hn : n < 72) (w : Vec Ideal S1x8x128 .f32)
    (L : List (View.Piece (Elt Ideal) S3x8x9216 .f32)) (y : S3x8x9216.Idx) (h : 128 * n + 128 ≤ (y 2).val) {v : EReal}
    (hL : View.canon L y = v) : View.canon (⟨accRect tt n ht hn, w⟩ :: L) y = v :=
  (canon_cons_out (accRect tt n ht hn) w L y (not_mem_accRect tt n ht hn y h)).trans hL

/-- A point's update of the accumulator `X` by the codes `cds` and the table `tab`: every cell gains the table's entries
    that its four codes name. -/
def next (tab : FVec Ideal S24x1024 .f32) (cds : Vec Ideal S32x9216 .i8) (X : Vec Ideal S3x8x9216 .f32) :
    Vec Ideal S3x8x9216 .f32 := fun y =>
  (X y : EReal) + ∑ b : Fin 4, entryAt tab (cds (ix2 (⟨4 * (y 1).val + b.val, by have := (y 1).isLt; have : (y 1).val < 8 := this; omega⟩ : Fin 32) (y 2 : Fin 9216)))
    (y 0).val b.val (y 0).isLt b.isLt (y 1)

/-- The update at a cell. -/
theorem next_apply (tab : FVec Ideal S24x1024 .f32) (cds : Vec Ideal S32x9216 .i8) (X : Vec Ideal S3x8x9216 .f32)
    (t : Fin 3) (r : Fin 8) (o : Fin 9216) :
    next tab cds X (ix3 t r o) = (X (ix3 t r o) : EReal)
      + ∑ b : Fin 4, entryAt tab (cds (ix2 (⟨4 * r.val + b.val, by omega⟩ : Fin 32) o)) t.val b.val t.isLt b.isLt r := rfl

section
variable (tab : FVec Ideal S24x1024 .f32) (cd : (n : ℕ) → n < 72 → Vec Ideal S32x128 .i8)
  (old : List (View.Piece (Elt Ideal) S3x8x9216 .f32) → (tt n : ℕ) → tt < 3 → n < 72 → Vec Ideal S1x8x128 .f32)
  (base : List (View.Piece (Elt Ideal) S3x8x9216 .f32))

/-- Column tiles not yet visited hold what the earlier stores left. -/
theorem canon_above (n : ℕ) (h : n ≤ 72) (y : S3x8x9216.Idx) (hy : 128 * n ≤ (y 2).val) :
    View.canon (pieces tab cd old base n h) y = View.canon base y := by
  induction n with
  | zero => rfl
  | succ n ih =>
    have hy' : 128 * n + 128 ≤ (y 2).val := hy
    rw [pieces]
    refine canon_cons_right 2 n _ h _ _ y hy' ?_
    refine canon_cons_right 1 n _ h _ _ y hy' ?_
    refine canon_cons_right 0 n _ h _ _ y hy' ?_
    exact ih _ ((Nat.le_add_right _ _).trans hy')

/-- Column tiles already visited hold the updated values: `X` what the tiles were read as, `cds` the codes. -/
theorem canon_below (cds : Vec Ideal S32x9216 .i8) (X : Vec Ideal S3x8x9216 .f32)
    (hcd : ∀ (n : ℕ) (hn : n < 72) (p : Fin 32) (l : Fin 128), cd n hn (ix2 p l) = cds (ix2 p (⟨128 * n + l.val, by omega⟩ : Fin 9216)))
    (hold : ∀ (n : ℕ) (hn : n < 72) (tt : ℕ) (ht : tt < 3) (r : Fin 8) (l : Fin 128),
      old (pieces tab cd old base n hn.le) tt n ht hn (ix3 (0 : Fin 1) r l)
        = X (ix3 (⟨tt, ht⟩ : Fin 3) r (⟨128 * n + l.val, by omega⟩ : Fin 9216))) :
    ∀ (n : ℕ) (h : n ≤ 72) (y : S3x8x9216.Idx), (y 2).val < 128 * n →
      View.canon (pieces tab cd old base n h) y = next tab cds X y := by
  intro n
  induction n with
  | zero => exact fun _ y hy => absurd hy (Nat.not_lt_zero _)
  | succ n ih =>
    intro h y hy
    have hp : ∀ (tt : ℕ) (ht : tt < 3) (r : Fin 8) (l : Fin 128),
        colPay tab (cd n h) tt ht (old (pieces tab cd old base n (Nat.le_of_succ_le h)) tt n ht h) (ix3 (0 : Fin 1) r l)
          = next tab cds X (ix3 (⟨tt, ht⟩ : Fin 3) r (⟨128 * n + l.val, by omega⟩ : Fin 9216)) := fun tt ht r l => by
      refine (colPay_apply _ _ _ _ _ _ _).trans ?_
      rw [next_apply, hold n h tt ht r l]
      refine congrArg (fun u : EReal => _ + u) (Finset.sum_congr rfl fun b _ => ?_)
      rw [hcd n h]
    rw [pieces]
    refine canon_cons_tile 2 n _ h _ (hp 2 _) _ y fun hm2 => ?_
    refine canon_cons_tile 1 n _ h _ (hp 1 _) _ y fun hm1 => ?_
    refine canon_cons_tile 0 n _ h _ (hp 0 _) _ y fun hm0 => ?_
    refine ih _ y ?_
    by_contra hge
    have h0 : (y 0).val < 3 := (y 0).isLt
    have hc : (y 0).val = 0 ∨ (y 0).val = 1 ∨ (y 0).val = 2 := by omega
    rcases hc with e | e | e
    · exact hm0 ((mem_accRect 0 n _ h y).2 ⟨e, by omega, by omega⟩)
    · exact hm1 ((mem_accRect 1 n _ h y).2 ⟨e, by omega, by omega⟩)
    · exact hm2 ((mem_accRect 2 n _ h y).2 ⟨e, by omega, by omega⟩)
end

/-- All 216 updates read back as one array. -/
theorem canon_pieces (tab : FVec Ideal S24x1024 .f32) (cd : (n : ℕ) → n < 72 → Vec Ideal S32x128 .i8)
    (old : List (View.Piece (Elt Ideal) S3x8x9216 .f32) → (tt n : ℕ) → tt < 3 → n < 72 → Vec Ideal S1x8x128 .f32)
    (base : List (View.Piece (Elt Ideal) S3x8x9216 .f32)) (cds : Vec Ideal S32x9216 .i8) (X : Vec Ideal S3x8x9216 .f32)
    (hcd : ∀ (n : ℕ) (hn : n < 72) (p : Fin 32) (l : Fin 128), cd n hn (ix2 p l) = cds (ix2 p (⟨128 * n + l.val, by omega⟩ : Fin 9216)))
    (hold : ∀ (n : ℕ) (hn : n < 72) (tt : ℕ) (ht : tt < 3) (r : Fin 8) (l : Fin 128),
      old (pieces tab cd old base n hn.le) tt n ht hn (ix3 (0 : Fin 1) r l)
        = X (ix3 (⟨tt, ht⟩ : Fin 3) r (⟨128 * n + l.val, by omega⟩ : Fin 9216))) :
    View.canon (pieces tab cd old base 72 (le_refl 72)) = next tab cds X :=
  funext fun y => canon_below tab cd old base cds X hcd hold 72 (le_refl 72) y (y 2).isLt

end Cert.KernelIdeal.Step
end
-- ==== Proof.Point.lean ====
/-
  THE VALUE OF A GRID POINT, in terms of its blocks: the three kinds of point (first, middle, last) leave the accumulator
  updated (`soutA`, `soutB`, `soutC`), and the last leaves the result (`outC`).
-/
module

public import proofs.«01_k».proof.Proof.Canon
public import Idealize.ShloMosaic.Lib.WholeRead

@[expose] public section

set_option maxRecDepth 16384

noncomputable section

namespace Cert.KernelIdeal.Step

open Idealize.ShloMosaic Idealize.ShloMosaic.TcCoe Idealize.SL.Sem
open Cert.KernelIdeal Cert.KernelIdeal.Gen

/-- The origin of a two-dimensional array. -/
theorem z2 : (![0, 0] : Fin 2 → ℕ) = fun _ => 0 := funext fun a => by fin_cases a <;> rfl
/-- The origin of a three-dimensional array. -/
theorem z3 : (![0, 0, 0] : Fin 3 → ℕ) = fun _ => 0 := funext fun a => by fin_cases a <;> rfl

/-- The table of products read from the two whole blocks. -/
theorem tab_eq (arg1 : Memref sig .tc .vmem S1x24x16 .bf16) (harg1 : arg1.IsWhole) (arg2 : Memref sig .tc .vmem S16x1024 .bf16)
    (harg2 : arg2.IsWhole) (x0 : Vec Ideal S1x24x16 .bf16) (x1 : Vec Ideal S16x1024 .bf16) :
    k0_pay4 (F := Ideal)
      (View.readAt (Elt Ideal) arg1.view (Rect.unit ![0, 0, 0] S1x24x16.size inb_S1x24x16_S1x24x16_0_0_0).toLoadRect (harg1.unread x0))
      (View.readAt (Elt Ideal) arg2.view (Rect.unit ![0, 0] S16x1024.size inb_S16x1024_S16x1024_0_0).toLoadRect (harg2.unread x1))
      = k0_pay4 (F := Ideal) x0 x1 := by
  rw [View.readAt_eq_ld, View.readAt_eq_ld, harg1.read_unread, harg2.read_unread, View.ld_unit_zero (S := S1x24x16) z3,
    View.ld_unit_zero (S := S16x1024) z2]

/-- A column tile of codes read from the whole block. -/
theorem cd_eq (arg3 : Memref sig .tc .vmem S32x9216 .i8) (harg3 : arg3.IsWhole) (x2 : Vec Ideal S32x9216 .i8)
    (n : ℕ) (hn : n < 72) (p : Fin 32) (l : Fin 128) :
    View.readAt (Elt Ideal) arg3.view (codeRect n hn).toLoadRect (harg3.unread x2) (ix2 p l : S32x128.Idx)
      = x2 (ix2 p (⟨128 * n + l.val, by omega⟩ : Fin 9216)) := by
  refine (harg3.readAt_unread x2 _ _).trans (congrArg x2 ?_)
  funext a
  match a with
  | ⟨0, _⟩ => exact Fin.ext (by show 0 + 1 * p.val = p.val; omega)
  | ⟨1, _⟩ => exact Fin.ext (by show 128 * n + 1 * l.val = 128 * n + l.val; omega)

/-- A tile of the accumulator read from what the point before left. -/
theorem old_eq (arg6 : Memref sig .tc .vmem S3x8x9216 .f32) (harg6 : arg6.IsWhole) (xs0 : Vec Ideal S3x8x9216 .f32)
    (n : ℕ) (hn : n < 72) (tt : ℕ) (ht : tt < 3) (r : Fin 8) (l : Fin 128) :
    View.readAt (Elt Ideal) arg6.view (accRect tt n ht hn).toLoadRect (harg6.unread xs0) (ix3 (0 : Fin 1) r l : S1x8x128.Idx)
      = xs0 (ix3 (⟨tt, ht⟩ : Fin 3) r (⟨128 * n + l.val, by omega⟩ : Fin 9216)) :=
  (harg6.readAt_unread xs0 _ _).trans (congrArg xs0 (accRect_emb tt n ht hn r l))

/-- The whole accumulator set to zero. -/
abbrev zeroed : View.Piece (Elt Ideal) S3x8x9216 .f32 :=
  ⟨Rect.unit ![0, 0, 0] S3x8x9216.size inb_S3x8x9216_S3x8x9216_0_0_0, k0_pay3 (F := Ideal)⟩

/-- Read back, it is zero. -/
theorem canon_zeroed (y : S3x8x9216.Idx) : View.canon [zeroed] y = (0 : EReal) := by
  rw [View.canon_unit_zero (S := S3x8x9216) z3]
  unfold k0_pay3
  idx_vars y
  pointwise

/-- Earlier stores stay in the list. -/
theorem mem_pieces (tab : FVec Ideal S24x1024 .f32) (cd : (n : ℕ) → n < 72 → Vec Ideal S32x128 .i8)
    (old : List (View.Piece (Elt Ideal) S3x8x9216 .f32) → (tt n : ℕ) → tt < 3 → n < 72 → Vec Ideal S1x8x128 .f32)
    (base : List (View.Piece (Elt Ideal) S3x8x9216 .f32)) (p : View.Piece (Elt Ideal) S3x8x9216 .f32) (hp : p ∈ base)
    (n : ℕ) (h : n ≤ 72) : p ∈ pieces tab cd old base n h := by
  induction n with
  | zero => exact hp
  | succ n ih =>
    rw [pieces]
    exact List.mem_cons_of_mem _ (List.mem_cons_of_mem _ (List.mem_cons_of_mem _ (ih _)))

/-- A tile of the accumulator read back, at the first point, before its update: zero. -/
theorem old_zero (arg6 : Memref sig .tc .vmem S3x8x9216 .f32) (tab : FVec Ideal S24x1024 .f32)
    (cd : (n : ℕ) → n < 72 → Vec Ideal S32x128 .i8)
    (old : List (View.Piece (Elt Ideal) S3x8x9216 .f32) → (tt n : ℕ) → tt < 3 → n < 72 → Vec Ideal S1x8x128 .f32)
    (n : ℕ) (hn : n < 72) (tt : ℕ) (ht : tt < 3) (r : Fin 8) (l : Fin 128) :
    arg6.view.readCov (pieces tab cd old [zeroed] n hn.le) (accRect tt n ht hn).toLoadRect (ix3 (0 : Fin 1) r l : S1x8x128.Idx)
      = (0 : EReal) := by
  have hc : ∀ y : S3x8x9216.Idx, ∃ p ∈ pieces tab cd old [zeroed] n hn.le, y ∈ p.1.set := fun y =>
    ⟨zeroed, mem_pieces tab cd old [zeroed] zeroed (List.mem_singleton_self _) n hn.le,
      View.mem_set_unit_zero (S := S3x8x9216) z3 inb_S3x8x9216_S3x8x9216_0_0_0 y⟩
  refine (congrFun (View.readCov_eq_canon_ld arg6.view _ (accRect tt n ht hn) hc) _).trans ?_
  refine Eq.trans (b := View.canon (pieces tab cd old [zeroed] n hn.le) ((accRect tt n ht hn).emb (ix3 (0 : Fin 1) r l : S1x8x128.Idx))) rfl ?_
  rw [accRect_emb]
  rw [canon_above tab cd old [zeroed] n hn.le _ (Nat.le_add_right _ _)]
  exact canon_zeroed _

section
variable (c : Dev nD) (i : grid0.Coords) (arg1 : Memref sig .tc .vmem S1x24x16 .bf16) (harg1 : arg1.IsWhole) (arg2 : Memref sig .tc .vmem S16x1024 .bf16) (harg2 : arg2.IsWhole) (arg3 : Memref sig .tc .vmem S32x9216 .i8) (harg3 : arg3.IsWhole) (arg4 : Memref sig .tc .vmem S1x9216 .f32) (harg4 : arg4.IsWhole) (arg5 : Memref sig .tc .vmem S3x9216 .bf16) (harg5 : arg5.IsWhole) (arg6 : Memref sig .tc .vmem S3x8x9216 .f32) (harg6 : arg6.IsWhole)
  (x0 : Vec Ideal S1x24x16 .bf16) (x1 : Vec Ideal S16x1024 .bf16) (x2 : Vec Ideal S32x9216 .i8) (x3 : Vec Ideal S1x9216 .f32) (xs0 : Vec Ideal S3x8x9216 .f32)

/-- The first point leaves the update of zero. -/
theorem soutA (hc0 : cond0_0 i) (hc1 : ¬cond0_1 i) :
    sout0_A_0 (F := Ideal) c i arg1 harg1 arg2 harg2 arg3 harg3 arg4 harg4 arg5 harg5 arg6 harg6 hc0 hc1 x0 x1 x2 x3
      = next (k0_pay4 (F := Ideal) x0 x1) x2 (fun _ => (0 : EReal)) := by
  unfold sout0_A_0
  rw [View.read_writes_junk_eq_canon, runA_eq, tab_eq]
  exact canon_pieces _ _ _ _ x2 _ (cd_eq arg3 harg3 x2) (old_zero arg6 _ _ _)

/-- A middle point leaves the update of what the point before left. -/
theorem soutB (hc0 : ¬cond0_0 i) (hc1 : ¬cond0_1 i) :
    sout0_B_0 (F := Ideal) c i arg1 harg1 arg2 harg2 arg3 harg3 arg4 harg4 arg5 harg5 arg6 harg6 hc0 hc1 x0 x1 x2 x3 xs0
      = next (k0_pay4 (F := Ideal) x0 x1) x2 xs0 := by
  unfold sout0_B_0
  rw [View.read_writes_junk_eq_canon, runB_eq, tab_eq]
  exact canon_pieces _ _ _ _ x2 _ (cd_eq arg3 harg3 x2) (old_eq arg6 harg6 xs0)

/-- What the last point's stores to the accumulator read back as. -/
theorem canonC (hc0 : ¬cond0_0 i) (hc1 : cond0_1 i) :
    View.canon (kernelRun0_C (F := Ideal) c i arg1 harg1 arg2 harg2 arg3 harg3 arg4 harg4 arg5 harg5 arg6 harg6 hc0 hc1 x0 x1 x2 x3 xs0).2.1
      = next (k0_pay4 (F := Ideal) x0 x1) x2 xs0 := by
  rw [runC_eq, tab_eq]
  exact canon_pieces _ _ _ _ x2 _ (cd_eq arg3 harg3 x2) (old_eq arg6 harg6 xs0)

/-- The last point's result, of token `t` and column `o`: the eight rows of the updated accumulator summed and scaled. -/
theorem outC (hc0 : ¬cond0_0 i) (hc1 : cond0_1 i) (t : Fin 3) (o : Fin 9216) :
    out0_C_4 (F := Ideal) c i arg1 harg1 arg2 harg2 arg3 harg3 arg4 harg4 arg5 harg5 arg6 harg6 hc0 hc1 x0 x1 x2 x3 xs0 (ix2 t o)
      = ((∑ r : Fin 8, next (k0_pay4 (F := Ideal) x0 x1) x2 xs0 (ix3 t r o)) * x3 (ix2 0 o) : EReal) := by
  unfold out0_C_4
  rw [View.read_writes_junk_eq_canon, outC_eq, View.canon_unit_zero (S := S3x9216) z2]
  simp only [View.readCov_eq_canon_ld _ _ _ (scover0_C_0 (F := Ideal) c i arg1 harg1 arg2 harg2 arg3 harg3 arg4 harg4 arg5 harg5 arg6 harg6 hc0 hc1 x0 x1 x2 x3 xs0), canonC]
  rw [View.readAt_eq_ld, harg4.read_unread, View.ld_unit_zero (S := S1x9216) z2]
  generalize next (k0_pay4 (F := Ideal) x0 x1) x2 xs0 = Y
  unfold k0_pay2
  fin_cases t <;> pointwise
end

end Cert.KernelIdeal.Step
end
-- ==== Proof.Spec.lean ====
/- What the product is, entry by entry, over the extended reals: the sums both programs compute, with the programs' own tilings nowhere in sight.
   The kernel's proof and the reference's proof each end at `Spec.result`. -/
module

public import Idealize.ShloMosaic.Lib.Pointwise

@[expose] public section

noncomputable section

namespace Cert.Spec

open Idealize.ShloMosaic

/-- The activations: three tokens of 2304 numbers each. -/
abbrev XS : Shape := ⟨3, ![3, 1, 2304]⟩
/-- The codes: for every group of eight inputs, every codebook and every output, one byte. -/
abbrev CS : Shape := ⟨3, ![288, 8, 9216]⟩
/-- The codebooks: eight books of 256 entries of eight numbers. -/
abbrev BS : Shape := ⟨3, ![8, 256, 8]⟩
/-- The scales, one per output. -/
abbrev SS : Shape := ⟨1, ![9216]⟩
/-- The result: three tokens of 9216 outputs. -/
abbrev OS : Shape := ⟨2, ![3, 9216]⟩

/-- The place of the input `8 g + j`, the `j`-th of group `g`, among the 2304. -/
def inp (g : Fin 288) (j : Fin 8) : Fin 2304 := ⟨8 * g.val + j.val, by omega⟩

/-- The place in a codebook that a byte names. -/
def entry (b : BitVec 8) : Fin 256 := ⟨b.toNat, b.isLt⟩

/-- The dot product of group `g` of token `t` with entry `k` of codebook `m`. -/
def dot (X : XS.Idx → EReal) (B : BS.Idx → EReal) (t : Fin 3) (g : Fin 288) (m : Fin 8) (k : Fin 256) : EReal :=
  ∑ j : Fin 8, X (ix3 t 0 (inp g j)) * B (ix3 m k j)

/-- The unscaled output `o` of token `t`: over all groups and codebooks, the dot product with the entry the code names. -/
def total (X : XS.Idx → EReal) (C : CS.Idx → BitVec 8) (B : BS.Idx → EReal) (t : Fin 3) (o : Fin 9216) : EReal :=
  ∑ g : Fin 288, ∑ m : Fin 8, dot X B t g m (entry (C (ix3 g m o)))

/-- The result, scaled. -/
def result (X : XS.Idx → EReal) (C : CS.Idx → BitVec 8) (B : BS.Idx → EReal) (s : SS.Idx → EReal) (i : OS.Idx) : EReal :=
  total X C B (i 0) (i 1) * s (ix1 (i 1))

end Cert.Spec

end
-- ==== Proof.Host.lean ====
/-
  THE ARRAYS THE GRID READS. The host reorders the activations into one block per four groups, each activation row placed
  beside zeros so that one product of sixteen terms is a product of eight (`xe`); the codebooks into one table whose column
  `256 b + k` holds entry `k` of codebook `b` above that of codebook `4 + b` (`cb`); the codes into one row per group and
  codebook; the scales into one row.
-/
module

public import proofs.«01_k».proof.Proof.Gen.KernelIdeal.Value
public import proofs.«01_k».proof.Proof.Spec
public import Idealize.ShloMosaic.Lib.Pipeline.Value
public import Idealize.ShloMosaic.Lib.Pointwise
public import Idealize.ShloMosaic.Lib.StableHlo.ReadAt
public import Idealize.ShloMosaic.Lib.Pipeline.ValueKit

@[expose] public section

set_option maxRecDepth 16384

noncomputable section

namespace Cert.KernelIdeal.Val

open Idealize.ShloMosaic Idealize.ShloMosaic.TcCoe Idealize.SL.Sem
open Cert.KernelIdeal Cert.KernelIdeal.Gen

variable (m : (ℓ : Loc nD τ sig) → Buf (Elt Ideal) ℓ)

/-- The activations. -/
def argX (c : Dev nD) : Vec Ideal Cert.Spec.XS .bf16 := m ((c.tc : Thread nD τ).loc main_arg0)
/-- The codes. -/
def argC (c : Dev nD) : Vec Ideal Cert.Spec.CS .i8 := m ((c.tc : Thread nD τ).loc main_arg1)
/-- The codebooks. -/
def argB (c : Dev nD) : Vec Ideal Cert.Spec.BS .bf16 := m ((c.tc : Thread nD τ).loc main_arg2)
/-- The scales. -/
def argS (c : Dev nD) : Vec Ideal Cert.Spec.SS .f32 := m ((c.tc : Thread nD τ).loc main_arg3)

/-- The row of scales, at a column. -/
theorem sc_apply (c : Dev nD) (o : Fin 9216) :
    (V m c main_v18 : S1x9216.Idx → EReal) (ix2 0 o) = argS m c (ix1 o) := by
  unfold V
  after_reads_at
  rfl

/-- The array of codes handed to the grid, at row `8 g + k`: the codes of group `g` and codebook `k`. -/
theorem co_apply (c : Dev nD) (g : Fin 288) (k : Fin 8) (o : Fin 9216) :
    (V m c main_v17 : S2304x9216.Idx → BitVec 8) (ix2 ⟨8 * g.val + k.val, by omega⟩ o) = argC m c (ix3 g k o) := by
  unfold V
  after_reads_at
  rfl

/-- The table of codebooks, at row `8 q + j` and column `256 b + k`: component `j` of entry `k` of codebook `4 q + b`. -/
theorem cb_apply (c : Dev nD) (q : Fin 2) (j : Fin 8) (b : Fin 4) (k : Fin 256) :
    (V m c main_v16 : S16x1024.Idx → EReal) (ix2 ⟨8 * q.val + j.val, by omega⟩ ⟨256 * b.val + k.val, by omega⟩)
      = argB m c (ix3 (⟨4 * q.val + b.val, by omega⟩ : Fin 8) k j) := by
  unfold V
  after_reads_at
  exact congrArg (argB m c) (congrArg (fun r : Fin 8 => ix3 r k j) (Fin.ext (by show q.val * 4 + b.val = 4 * q.val + b.val; omega)))

/-- The array of activations, at point `gi` and row `8 t + 2 g4 + q`: token `t`'s group `4 gi + g4` in the half `q` of the
    sixteen columns, and zero in the other half. -/
theorem xe_apply (c : Dev nD) (gi : Fin 72) (t : Fin 3) (g4 : Fin 4) (q q' : Fin 2) (j : Fin 8) :
    (V m c main_v13 : S72x24x16.Idx → EReal) (ix3 gi ⟨8 * t.val + (2 * g4.val + q.val), by omega⟩ ⟨8 * q'.val + j.val, by omega⟩)
      = if q = q' then argX m c (ix3 t 0 (Cert.Spec.inp ⟨4 * gi.val + g4.val, by omega⟩ j)) else 0 := by
  unfold V
  after_reads_at
  have he : (FloatOps.uitofp (F := Ideal) FTy.bf16 (IntOp.cmpi .eq (IntOp.addi (BitVec.ofNat 32 q.val) 0#32) (BitVec.ofNat 32 q'.val)) : EReal)
      = if q = q' then 1 else 0 := by
    fin_cases q <;> fin_cases q' <;> norm_num [FloatOps.uitofp, IntOp.cmpi, IntOp.addi] <;> rfl
  have hx : m (c, Proc.tc.devRef main_arg0) (ix3 t 0 ⟨gi.val * 32 + g4.val * 8 + j.val, by omega⟩)
      = argX m c (ix3 t 0 (Cert.Spec.inp ⟨4 * gi.val + g4.val, by omega⟩ j)) :=
    congrArg (argX m c) (congrArg (fun r : Fin 2304 => ix3 t 0 r) (Fin.ext (by
      show gi.val * 32 + g4.val * 8 + j.val = 8 * (4 * gi.val + g4.val) + j.val; omega)))
  refine (congrArg₂ (fun u v : EReal => u * v) hx he).trans ?_
  split <;> simp

/-- Where the windows' blocks sit: the activations' block moves with the point, the codes' too, the others stay. -/
theorem idx_win : ∀ t : Fin cfg0.N, win0_0.index t = ![t.val, 0, 0] ∧ win0_1.index t = ![0, 0] ∧ win0_2.index t = ![t.val, 0]
    ∧ win0_3.index t = ![0, 0] := by decide +kernel

/-- A point's block of activations. -/
theorem iblk0_apply (c : Dev nD) (t : Fin cfg0.N) (ht : t.val < 72) (R : Fin 24) (q : Fin 16) :
    (iblk m c 0 t : S1x24x16.Idx → EReal) (ix3 0 R q) = (V m c main_v13 : S72x24x16.Idx → EReal) (ix3 ⟨t.val, ht⟩ R q) := by
  have h := idx_win t
  blk_ext [iblk, h.1]

/-- A point's table of codebooks. -/
theorem iblk1_apply (c : Dev nD) (t : Fin cfg0.N) (q : Fin 16) (k : Fin 1024) :
    (iblk m c 1 t : S16x1024.Idx → EReal) (ix2 q k) = (V m c main_v16 : S16x1024.Idx → EReal) (ix2 q k) := by
  have h := idx_win t
  blk_ext [iblk, h.2.1]

/-- A point's block of codes. -/
theorem iblk2_apply (c : Dev nD) (t : Fin cfg0.N) (ht : t.val < 72) (p : Fin 32) (o : Fin 9216) :
    (iblk m c 2 t : S32x9216.Idx → BitVec 8) (ix2 p o)
      = (V m c main_v17 : S2304x9216.Idx → BitVec 8) (ix2 ⟨32 * t.val + p.val, by omega⟩ o) := by
  have h := idx_win t
  blk_ext [iblk, h.2.2.1]

/-- A point's row of scales. -/
theorem iblk3_apply (c : Dev nD) (t : Fin cfg0.N) (o : Fin 9216) :
    (iblk m c 3 t : S1x9216.Idx → EReal) (ix2 0 o) = (V m c main_v18 : S1x9216.Idx → EReal) (ix2 0 o) := by
  have h := idx_win t
  blk_ext [iblk, h.2.2.2]

end Cert.KernelIdeal.Val
end
-- ==== Proof.KernelValue.lean ====
/-
  THE KERNEL'S RESULT. The table a grid point forms holds, at the row of token `t` and of word row `r` and at the column of
  byte `b` and code `k`, the product of the activations of group `4 p + r / 2` with entry `k` of codebook `4 (r % 2) + b`
  (`table_eq`): half of the sixteen products are with zeros. So each point adds to a cell of the accumulator the products of
  the four codes of its row (`point_sum`), the 72 points add them all (`acc_eq`), and summing a token's eight rows gives the
  sum over all groups and codebooks (`regroup`), which the scale multiplies (`value`).
-/
module

public import proofs.«01_k».proof.Proof.Point
public import proofs.«01_k».proof.Proof.Host

@[expose] public section

set_option maxRecDepth 16384

noncomputable section

namespace Cert.KernelIdeal.Val

open Idealize.ShloMosaic Idealize.ShloMosaic.TcCoe Idealize.SL.Sem
open Cert.KernelIdeal Cert.KernelIdeal.Gen Cert.KernelIdeal.Value Cert.KernelIdeal.Step

variable (m : (ℓ : Loc nD τ sig) → Buf (Elt Ideal) ℓ)

/-- The product of the two blocks, at a cell: sixteen products summed. -/
theorem pay4_apply (x0 : Vec Ideal S1x24x16 .bf16) (x1 : Vec Ideal S16x1024 .bf16) (R : Fin 24) (k : Fin 1024) :
    k0_pay4 (F := Ideal) x0 x1 (ix2 R k) = (∑ q : Fin 16, x0 (ix3 0 R q) * x1 (ix2 q k) : EReal) := by
  unfold k0_pay4
  pointwise

/-- The group that word row `r` of grid point `p` belongs to. -/
def grp (p : Fin 72) (r : Fin 8) : Fin 288 := ⟨4 * p.val + r.val / 2, by omega⟩

/-- The codebook of byte `b` of word row `r`. -/
def book (r : Fin 8) (b : Fin 4) : Fin 8 := ⟨4 * (r.val % 2) + b.val, by omega⟩

/-- Sixteen terms as two rows of eight. -/
theorem sum_16 (f : Fin 16 → EReal) : ∑ q : Fin 16, f q = ∑ q : Fin 2, ∑ j : Fin 8, f ⟨8 * q.val + j.val, by omega⟩ := by
  rw [← Fintype.sum_prod_type' (f := fun (q : Fin 2) (j : Fin 8) => f ⟨8 * q.val + j.val, by omega⟩)]
  refine (Fintype.sum_equiv (finProdFinEquiv (m := 2) (n := 8)) _ _ fun x => congrArg f (Fin.ext ?_)).symm
  show 8 * x.1.val + x.2.val = x.2.val + 8 * x.1.val
  omega

/-- A table's entry, when the first operand's row holds the group's activations in the word row's own half and zeros in the
    other, and the second operand's column holds the codebooks' entries. -/
theorem table_of (x0 : Vec Ideal S1x24x16 .bf16) (x1 : Vec Ideal S16x1024 .bf16) (X : Cert.Spec.XS.Idx → EReal) (B : Cert.Spec.BS.Idx → EReal)
    (g : Fin 288) (t : Fin 3) (r : Fin 8) (b : Fin 4) (k : BitVec 8)
    (hx : ∀ (q : Fin 2) (j : Fin 8), (x0 (ix3 0 ⟨8 * t.val + r.val, by omega⟩ ⟨8 * q.val + j.val, by omega⟩) : EReal)
      = if q.val = r.val % 2 then X (ix3 t 0 (Cert.Spec.inp g j)) else 0)
    (hb : ∀ (q : Fin 2) (j : Fin 8), (x1 (ix2 ⟨8 * q.val + j.val, by omega⟩ ⟨256 * b.val + k.toNat, by have := k.isLt; omega⟩) : EReal)
      = B (ix3 (⟨4 * q.val + b.val, by omega⟩ : Fin 8) (Cert.Spec.entry k) j)) :
    entryAt (k0_pay4 (F := Ideal) x0 x1) k t.val b.val t.isLt b.isLt r = Cert.Spec.dot X B t g (book r b) (Cert.Spec.entry k) := by
  unfold entryAt
  rw [pay4_apply, sum_16]
  have hq : ∀ q : Fin 2, (∑ j : Fin 8, ((x0 (ix3 0 ⟨8 * t.val + r.val, by omega⟩ ⟨8 * q.val + j.val, by omega⟩) : EReal)
        * (x1 (ix2 ⟨8 * q.val + j.val, by omega⟩ ⟨256 * b.val + k.toNat, by have := k.isLt; omega⟩) : EReal)))
      = if q.val = r.val % 2 then Cert.Spec.dot X B t g (book r b) (Cert.Spec.entry k) else 0 := fun q => by
    by_cases h : q.val = r.val % 2
    · rw [if_pos h]
      unfold Cert.Spec.dot
      refine Finset.sum_congr rfl fun j _ => ?_
      rw [hx q j, hb q j, if_pos h]
      have hk : (⟨4 * q.val + b.val, by omega⟩ : Fin 8) = book r b := Fin.ext (by show 4 * q.val + b.val = 4 * (r.val % 2) + b.val; rw [h])
      rw [hk]
    · rw [if_neg h]
      refine Finset.sum_eq_zero fun j _ => ?_
      rw [hx q j, if_neg h, zero_mul]
  refine (Finset.sum_congr rfl fun q _ => hq q).trans ?_
  rw [Fin.sum_univ_two]
  have h2 : r.val % 2 = 0 ∨ r.val % 2 = 1 := by omega
  rcases h2 with h | h <;> simp [h]

/-- A point's table, at the entry of a token, a word row, a byte and a code. -/
theorem table_eq (c : Dev nD) (p : Fin cfg0.N) (hp : p.val < 72) (t : Fin 3) (r : Fin 8) (b : Fin 4) (k : BitVec 8) :
    entryAt (k0_pay4 (F := Ideal) (iblk m c 0 p) (iblk m c 1 p)) k t.val b.val t.isLt b.isLt r
      = Cert.Spec.dot (argX m c) (argB m c) t (grp ⟨p.val, hp⟩ r) (book r b) (Cert.Spec.entry k) := by
  refine table_of (iblk m c 0 p) (iblk m c 1 p) (argX m c) (argB m c) (grp ⟨p.val, hp⟩ r) t r b k (fun q j => ?_) fun q j => ?_
  · refine (iblk0_apply m c p hp _ _).trans ?_
    have hr : (⟨8 * t.val + r.val, by omega⟩ : Fin 24) = ⟨8 * t.val + (2 * (r.val / 2) + r.val % 2), by omega⟩ :=
      Fin.ext (by show 8 * t.val + r.val = 8 * t.val + (2 * (r.val / 2) + r.val % 2); omega)
    rw [hr]
    refine (xe_apply m c ⟨p.val, hp⟩ t ⟨r.val / 2, by omega⟩ ⟨r.val % 2, by omega⟩ q j).trans ?_
    refine if_congr ?_ rfl rfl
    rw [Fin.ext_iff]
    exact eq_comm
  · exact (iblk1_apply m c p _ _).trans (cb_apply m c q j b (Cert.Spec.entry k))

/-- What grid point `p` adds to the accumulator's cell of token `t`, word row `r` and column `o`. -/
def term (c : Dev nD) (p : Fin 72) (t : Fin 3) (r : Fin 8) (o : Fin 9216) : EReal :=
  ∑ b : Fin 4, Cert.Spec.dot (argX m c) (argB m c) t (grp p r) (book r b)
    (Cert.Spec.entry (argC m c (ix3 (grp p r) (book r b) o)))

/-- A point's update at a cell. -/
theorem point_sum (c : Dev nD) (p : Fin cfg0.N) (hp : p.val < 72) (X : Vec Ideal S3x8x9216 .f32) (t : Fin 3) (r : Fin 8) (o : Fin 9216) :
    next (k0_pay4 (F := Ideal) (iblk m c 0 p) (iblk m c 1 p)) (iblk m c 2 p) X (ix3 t r o)
      = (X (ix3 t r o) : EReal) + term m c ⟨p.val, hp⟩ t r o := by
  rw [next_apply]
  refine congrArg (fun u : EReal => _ + u) (Finset.sum_congr rfl fun b _ => ?_)
  have hc : (iblk m c 2 p : S32x9216.Idx → BitVec 8) (ix2 ⟨4 * r.val + b.val, by omega⟩ o) = argC m c (ix3 (grp ⟨p.val, hp⟩ r) (book r b) o) := by
    refine (iblk2_apply m c p hp _ o).trans ?_
    have hr : (⟨32 * p.val + (4 * r.val + b.val), by omega⟩ : Fin 2304)
        = ⟨8 * (grp ⟨p.val, hp⟩ r).val + (book r b).val, by have := (grp ⟨p.val, hp⟩ r).isLt; have := (book r b).isLt; omega⟩ :=
      Fin.ext (by show 32 * p.val + (4 * r.val + b.val) = 8 * (4 * p.val + r.val / 2) + (4 * (r.val % 2) + b.val); omega)
    exact (congrArg (fun R : Fin 2304 => (V m c main_v17 : S2304x9216.Idx → BitVec 8) (ix2 R o)) hr).trans (co_apply m c _ _ o)
  exact (table_eq m c p hp t r b _).trans (congrArg (fun k : BitVec 8 => Cert.Spec.dot (argX m c) (argB m c) t (grp ⟨p.val, hp⟩ r) (book r b) (Cert.Spec.entry k)) hc)

/-- `term`, zero past the last point. -/
def termN (c : Dev nD) (t : Fin 3) (r : Fin 8) (o : Fin 9216) (p : ℕ) : EReal :=
  if h : p < 72 then term m c ⟨p, h⟩ t r o else 0

/-- After any point before the last, the accumulator holds what the points so far added. -/
theorem acc_eq (c : Dev nD) (n : ℕ) (hn : n < cfg0.N) (h71 : n < 71) (t : Fin 3) (r : Fin 8) (o : Fin 9216) :
    (outsAt0 m c n hn).2 (ix3 t r o) = (∑ p ∈ Finset.range (n + 1), termN m c t r o p : EReal) := by
  induction n with
  | zero =>
    rw [outsAt0_A m c ⟨0, hn⟩ rfl (by dsimp only; omega)]
    dsimp only
    rw [soutA, point_sum m c ⟨0, hn⟩ (by dsimp only; omega), Finset.sum_range_one, zero_add, termN, dif_pos (by decide)]
  | succ n ih =>
    rw [outsAt0_B m c ⟨n + 1, hn⟩ (by dsimp only; omega) (by dsimp only; omega)]
    dsimp only
    rw [soutB, point_sum m c ⟨n + 1, hn⟩ (by dsimp only; omega), Finset.sum_range_succ _ (n + 1)]
    have hT : termN m c t r o (n + 1) = term m c ⟨n + 1, by omega⟩ t r o := dif_pos (by omega)
    rw [hT]
    exact congrArg (fun u : EReal => u + _) (ih (Nat.lt_of_succ_lt hn) (by omega))

/-- Grid point, word row and byte name a group and a codebook, each once. -/
def cells : (Fin 8 × Fin 72) × Fin 4 ≃ Fin 288 × Fin 8 where
  toFun x := (grp x.1.2 x.1.1, book x.1.1 x.2)
  invFun y := ((⟨2 * (y.1.val % 4) + y.2.val / 4, by omega⟩, ⟨y.1.val / 4, by omega⟩), ⟨y.2.val % 4, by omega⟩)
  left_inv := by
    rintro ⟨⟨r, p⟩, b⟩
    simp only [grp, book, Prod.mk.injEq, Fin.ext_iff]
    omega
  right_inv := by
    rintro ⟨g, k⟩
    simp only [grp, book, Prod.mk.injEq, Fin.ext_iff]
    omega

/-- A token's eight rows, summed: the sum over all groups and codebooks. -/
theorem regroup (c : Dev nD) (t : Fin 3) (o : Fin 9216) :
    (∑ r : Fin 8, ∑ p : Fin 72, term m c p t r o) = Cert.Spec.total (argX m c) (argC m c) (argB m c) t o := by
  unfold Cert.Spec.total term
  rw [← Fintype.sum_prod_type' (f := fun (r : Fin 8) (p : Fin 72) => ∑ b : Fin 4, Cert.Spec.dot (argX m c) (argB m c) t (grp p r) (book r b)
      (Cert.Spec.entry (argC m c (ix3 (grp p r) (book r b) o)))),
    ← Fintype.sum_prod_type' (f := fun (x : Fin 8 × Fin 72) (b : Fin 4) => Cert.Spec.dot (argX m c) (argB m c) t (grp x.2 x.1) (book x.1 b)
      (Cert.Spec.entry (argC m c (ix3 (grp x.2 x.1) (book x.1 b) o)))),
    ← Fintype.sum_prod_type' (f := fun (g : Fin 288) (k : Fin 8) => Cert.Spec.dot (argX m c) (argB m c) t g k
      (Cert.Spec.entry (argC m c (ix3 g k o))))]
  exact Fintype.sum_equiv cells _ _ fun _ => rfl

/-- The kernel's result array is `Spec.result` of its arguments. -/
theorem value (c : Dev nD) :
    G4 m c = Cert.Spec.result (argX m c) (argC m c) (argB m c) (argS m c) := by
  have h71 : 71 < cfg0.N := lt_of_lt_of_eq (by decide) N_0.symm
  rw [G4_last, ← outsAt0_sweep m c 71 h71, outsAt0_C m c ⟨71, h71⟩ (by dsimp only; omega) rfl]
  dsimp only
  funext i
  obtain ⟨t, o, rfl⟩ : ∃ (t : Fin 3) (o : Fin 9216), i = ix2 t o := ⟨i 0, i 1, by funext a; match a with | ⟨0, _⟩ => rfl | ⟨1, _⟩ => rfl⟩
  refine (outC ..).trans ?_
  have hs : (iblk m c 3 ⟨71, h71⟩ : S1x9216.Idx → EReal) (ix2 0 o) = argS m c (ix1 o) := (iblk3_apply m c _ o).trans (sc_apply m c o)
  refine congrArg₂ (fun u v : EReal => u * v) ?_ hs
  refine Eq.trans ?_ (regroup m c t o)
  refine Finset.sum_congr rfl fun r _ => ?_
  rw [point_sum m c ⟨71, h71⟩ (by dsimp only; omega)]
  have hsum : (∑ p : Fin 72, term m c p t r o) = ∑ p ∈ Finset.range 72, termN m c t r o p := by
    rw [Finset.sum_range]
    refine Finset.sum_congr rfl fun p _ => ?_
    have hp : termN m c t r o p.val = term m c ⟨p.val, p.isLt⟩ t r o := dif_pos p.isLt
    exact hp.symm
  rw [hsum, Finset.sum_range_succ]
  have hT : termN m c t r o 71 = term m c ⟨71, by decide⟩ t r o := dif_pos (by decide)
  rw [hT]
  exact congrArg (fun u : EReal => u + _) (acc_eq m c 70 _ (by decide) t r o)

end Cert.KernelIdeal.Val
end
-- ==== Proof.RefValue.lean ====
/- The value of the reference: its three-trip loop writes row `t` of the result from token `t`, and each row is the sum `Spec.total` names. -/
module

public import proofs.«01_k».proof.Proof.Gen.ReferenceIdeal.Run
public import proofs.«01_k».proof.Proof.Spec
public import Idealize.ShloMosaic.Lib.Pipeline.Value
public import Idealize.ShloMosaic.Lib.Pointwise
public import Idealize.ShloMosaic.Lib.DynamicIndex

@[expose] public section

set_option maxRecDepth 16384

noncomputable section

namespace Cert.ReferenceIdeal.Val

open Idealize.ShloMosaic Idealize.ShloMosaic.TcCoe Idealize.SL.Sem
open Cert.ReferenceIdeal Cert.ReferenceIdeal.Gen Cert.ReferenceIdeal.Value Idealize.ShloMosaic.StableHlo

/-- The lookup `table[idx]` of a flat table at a box of indices, read at one place: where the index word there, read signed, is a place `k` of the
    table, the table's entry `k`. -/
theorem gather_apply {α : Type} (x : S589824.Idx → α) (idx : IVec S288x8x9216x1 32) (g : Fin 288) (c : Fin 8) (o : Fin 9216)
    (k : Fin 589824) (hk : (idx (ix4 g c o 0)).toInt = (k.val : ℤ)) :
    Host.gather gather_S589824_S288x8x9216x1_S288x8x9216_n_0_n_n_0_3_1 x idx (ix3 g c o) = x (ix1 k) := by
  unfold Host.gather
  congr 1
  funext a
  obtain rfl : a = 0 := Subsingleton.elim _ _
  refine Fin.ext ?_
  show GatherDims.start _ _ idx 0 + GatherDims.batchCoord _ _ 0 + GatherDims.offCoord _ _ 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S589824_S288x8x9216x1_S288x8x9216_n_0_n_n_0_3_1.startIndexMap from List.mem_singleton.mpr rfl)]
  have hsi : gather_S589824_S288x8x9216x1_S288x8x9216_n_0_n_n_0_3_1.siIdx (ix3 g c o)
      ⟨List.idxOf (0 : Fin 1) gather_S589824_S288x8x9216x1_S288x8x9216_n_0_n_n_0_3_1.startIndexMap,
      List.idxOf_lt_length_iff.2 (List.mem_singleton.mpr rfl)⟩ = ix4 g c o 0 := by
    funext b; refine Fin.ext ?_
    match b with
    | ⟨0, _⟩ => rfl
    | ⟨1, _⟩ => rfl
    | ⟨2, _⟩ => rfl
    | ⟨3, _⟩ => rfl
  rw [hsi]
  show min (idx (ix4 g c o 0)).toInt.toNat 589823 = k.val
  rw [hk]
  have := k.isLt
  omega

/-- The index word of group `g`, codebook `c` and a code: nonnegative, and in the table. -/
theorem word_toInt (g : Fin 288) (c : Fin 8) (b : BitVec 8) :
    ((BitVec.ofNat 32 g.val * 8#32 + BitVec.ofNat 32 c.val) * 256#32 + b.setWidth 32).toInt = (((g.val * 8 + c.val) * 256 + b.toNat : ℕ) : ℤ) := by
  have hb := b.isLt
  have h : ((BitVec.ofNat 32 g.val * 8#32 + BitVec.ofNat 32 c.val) * 256#32 + b.setWidth 32).toNat = (g.val * 8 + c.val) * 256 + b.toNat := by
    simp only [BitVec.toNat_add, BitVec.toNat_mul, BitVec.toNat_ofNat, BitVec.toNat_setWidth]
    omega
  rw [BitVec.toInt_eq_toNat_of_lt (by rw [h]; omega), h]

/-- The index array: at group `g`, codebook `c`, output `o` the word `(8 g + c) · 256 + code`. -/
def IDX (C : (⟨3, ![288, 8, 9216]⟩ : Shape).Idx → BitVec 8) : IVec S288x8x9216 32 := fun i =>
  (BitVec.ofNat 32 (i 0).val * 8#32 + BitVec.ofNat 32 (i 1).val) * 256#32 + (C i).setWidth 32

/-- The sum over groups and codebooks, read at an output. -/
theorem reduce_apply (v : FVec Ideal S288x8x9216 .f32) (o : Fin 9216) :
    Host.reduceAdd v (constant S_ .f32 0x00000000#32) reducesTo_S288x8x9216_S9216_d0_1 h_S_ (ix1 o)
      = ∑ g : Fin 288, ∑ c : Fin 8, v (ix3 g c o) := by
  show Ideal.ofBits .f32 0x00000000#32 + ∑ i ∈ Finset.univ.filter (fun i => reducesTo_S288x8x9216_S9216_d0_1.drop i = ix1 o), v i = _
  rw [Ideal.ofBits_zero_f32, zero_add,
    Finset.sum_filter_eq_sum_of_fiber _ (fun k : Fin 288 × Fin 8 => (ix3 k.1 k.2 o : S288x8x9216.Idx))
      (fun a b e => Prod.ext (congrFun e 0) (congrFun e 1)) (fun i => ?_) v, Fintype.sum_prod_type]
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext b
    apply Fin.ext
    obtain rfl : b = 0 := Subsingleton.elim _ _
    rfl

/-- One trip's row: the table of the trip's token looked up and summed. -/
theorem row_apply (x : FVec Ideal S288x8 .bf16) (B : FVec Ideal S8x256x8 .bf16) (C : (⟨3, ![288, 8, 9216]⟩ : Shape).Idx → BitVec 8) (o : Fin 9216) :
    Host.reduceAdd (Host.gather gather_S589824_S288x8x9216x1_S288x8x9216_n_0_n_n_0_3_1 (shapeCast S589824 (Host.dotGeneral dot_S288x8_S8x256x8_S288x8x256_1_2_0_01_n_n none x B) shapeCasts_S288x8x256_S589824) (broadcastInDim S288x8x9216x1 ![0, 1, 2] bcast_S288x8x9216_S288x8x9216x1_0_1_2 (select (cmpi .slt (IDX C) (broadcastInDim S288x8x9216 ![] bcast_S_S288x8x9216 (constantI S_ 32 0#32))) (addi (IDX C) (broadcastInDim S288x8x9216 ![] bcast_S_S288x8x9216 (constantI S_ 32 589824#32))) (IDX C)))) (constant S_ .f32 0x00000000#32) reducesTo_S288x8x9216_S9216_d0_1 h_S_ (ix1 o)
      = ∑ g : Fin 288, ∑ c : Fin 8, ∑ j : Fin 8, x (ix2 g j) * B (ix3 c (Cert.Spec.entry (C (ix3 g c o))) j) := by
  have key : ∀ (g : Fin 288) (c : Fin 8), Host.gather gather_S589824_S288x8x9216x1_S288x8x9216_n_0_n_n_0_3_1 (shapeCast S589824 (Host.dotGeneral dot_S288x8_S8x256x8_S288x8x256_1_2_0_01_n_n none x B) shapeCasts_S288x8x256_S589824) (broadcastInDim S288x8x9216x1 ![0, 1, 2] bcast_S288x8x9216_S288x8x9216x1_0_1_2 (select (cmpi .slt (IDX C) (broadcastInDim S288x8x9216 ![] bcast_S_S288x8x9216 (constantI S_ 32 0#32))) (addi (IDX C) (broadcastInDim S288x8x9216 ![] bcast_S_S288x8x9216 (constantI S_ 32 589824#32))) (IDX C))) (ix3 g c o)
      = ∑ j : Fin 8, x (ix2 g j) * B (ix3 c (Cert.Spec.entry (C (ix3 g c o))) j) := by
    intro g c
    have hsel : broadcastInDim S288x8x9216x1 ![0, 1, 2] bcast_S288x8x9216_S288x8x9216x1_0_1_2 (select (cmpi .slt (IDX C) (broadcastInDim S288x8x9216 ![] bcast_S_S288x8x9216 (constantI S_ 32 0#32))) (addi (IDX C) (broadcastInDim S288x8x9216 ![] bcast_S_S288x8x9216 (constantI S_ 32 589824#32))) (IDX C)) (ix4 g c o 0) = IDX C (ix3 g c o) := by
      pointwise
      have hs : IntOp.cmpi .slt (IDX C (ix3 g c o)) 0#32 = 0#1 := by
        have h : (IDX C (ix3 g c o)).slt 0#32 = false := by
          simp only [BitVec.slt, BitVec.toInt_zero, decide_eq_false_iff_not, Int.not_lt]
          rw [show IDX C (ix3 g c o) = (BitVec.ofNat 32 g.val * 8#32 + BitVec.ofNat 32 c.val) * 256#32 + (C (ix3 g c o)).setWidth 32 from rfl, word_toInt]
          exact Int.natCast_nonneg _
        show BitVec.ofBool ((IDX C (ix3 g c o)).slt 0#32) = 0#1
        rw [h]
        rfl
      rw [hs]
      rfl
    have hb := (C (ix3 g c o)).isLt
    rw [gather_apply _ _ g c o ⟨(g.val * 8 + c.val) * 256 + (C (ix3 g c o)).toNat, by omega⟩ (by rw [hsel]; exact word_toInt g c _)]
    rw [_root_.Idealize.ShloMosaic.shapeCast_apply _ _ (ix1 _) (ix3 g c (Cert.Spec.entry (C (ix3 g c o)))) (by
      rw [rowMajor_val1, rowMajor_val3 _ 2048 256 rfl rfl]
      show g.val * 2048 + c.val * 256 + (C (ix3 g c o)).toNat = (g.val * 8 + c.val) * 256 + (C (ix3 g c o)).toNat
      omega)]
    pointwise
  rw [reduce_apply]
  exact Finset.sum_congr rfl fun g _ => Finset.sum_congr rfl fun c _ => key g c

/-- The token's row the trip slices off. -/
theorem slice_row {k : ℕ} (hk : k < 3) (Y : S3x288x8.Idx → EReal) (start : Fin 3 → Int) (hs : ∀ a, start a = ((![k, 0, 0] a : ℕ) : ℤ)) (g : Fin 288) (j : Fin 8) :
    shapeCast S288x8 (Host.dynamicSlice S1x288x8 Y start sliceFits_S3x288x8_S1x288x8) shapeCasts_S1x288x8_S288x8 (ix2 g j) = Y (ix3 ⟨k, hk⟩ g j) := by
  have hf : S3x288x8.Slices ![k, 0, 0] S1x288x8 := by clear hs; interval_cases k <;> decide
  refine (congrFun (congrArg (fun z => shapeCast S288x8 z shapeCasts_S1x288x8_S288x8)
    (Host.dynamicSlice_eq_extractStridedSlice S1x288x8 Y start ![k, 0, 0] sliceFits_S3x288x8_S1x288x8 hf hs)) _).trans ?_
  pointwise

/-- The row the trip writes, and the rows it leaves. -/
theorem update_row {k : ℕ} (hk : k < 3) (Y : S3x9216.Idx → EReal) (u : S1x9216.Idx → EReal) (start : Fin 2 → Int) (hs : ∀ a, start a = ((![k, 0] a : ℕ) : ℤ))
    (t : Fin 3) (o : Fin 9216) :
    Host.dynamicUpdateSlice Y u start updateFits_S3x9216_S1x9216 (ix2 t o) = if t.val = k then u (ix2 0 o) else Y (ix2 t o) := by
  refine (congrFun (Host.dynamicUpdateSlice_eq_updateSlice Y u start updateFits_S3x9216_S1x9216 ![k, 0]
    (fun a => by rw [show start a = _ from hs a]; clear hs; interval_cases k <;> revert a <;> decide) (by clear hs; interval_cases k <;> decide)) _).trans ?_
  pointwise
  by_cases e : t.val = k
  · rw [dif_pos ⟨by omega, by omega⟩, if_pos e]
    exact congrArg u (congrArg (fun z => ix2 z o) (Fin.ext (show t.val - k = 0 by omega)))
  · rw [dif_neg (by omega), if_neg e]

/-- What the loop carries before trip `k`, on inputs `X`, `C`, `B`: the activations in rows of eight, the codebooks, the index array, the count,
    and the rows of the result written so far. -/
structure Carried (X : Cert.Spec.XS.Idx → EReal) (C : Cert.Spec.CS.Idx → BitVec 8) (B : Cert.Spec.BS.Idx → EReal) (k : ℕ) (V : Valuation τ sig (Elt Ideal)) : Prop where
  x : V (Proc.devRef .tc main_v16_0) = shapeCast S3x288x8 (X : S3x1x2304.Idx → EReal) shapeCasts_S3x1x2304_S3x288x8
  b : V (Proc.devRef .tc main_v16_1) = B
  i : V (Proc.devRef .tc main_v16_2) = IDX C
  n : V (Proc.devRef .tc main_v16_3) = fun _ => BitVec.ofNat 32 k
  o : ∀ (t : Fin 3) (o : Fin 9216), t.val < k → (V (Proc.devRef .tc main_v16_4) : S3x9216.Idx → EReal) (ix2 t o) = Cert.Spec.total X C B t o

variable (m : (ℓ : Loc nD τ sig) → Buf (Elt Ideal) ℓ)

/-- The activations as launched. -/
abbrev argX (c : Dev nD) : Cert.Spec.XS.Idx → EReal := m ((c.tc : Thread nD τ).loc main_arg0)
/-- The codes as launched. -/
abbrev argC (c : Dev nD) : Cert.Spec.CS.Idx → BitVec 8 := m ((c.tc : Thread nD τ).loc main_arg1)
/-- The codebooks as launched. -/
abbrev argB (c : Dev nD) : Cert.Spec.BS.Idx → EReal := m ((c.tc : Thread nD τ).loc main_arg2)
/-- The scales as launched. -/
abbrev argS (c : Dev nD) : Cert.Spec.SS.Idx → EReal := m ((c.tc : Thread nD τ).loc main_arg3)

/-- At the loop's entry nothing is written yet. -/
theorem carried_zero (c : Dev nD) : Carried (argX m c) (argC m c) (argB m c) 0 (entryContents preI m c) where
  x := by
    simp only [entryContents, afterL_cons, afterL_nil]
    after_reads_simp
    rfl
  b := by
    simp only [entryContents, afterL_cons, afterL_nil]
    after_reads_simp
    rfl
  i := by
    simp only [entryContents, afterL_cons, afterL_nil]
    after_reads_simp
    funext i
    idx_vars i
    pointwise
    rfl
  n := ctr_entry m c
  o := fun _ _ h => absurd h (Nat.not_lt_zero _)

/-- One trip writes one more row. -/
theorem carried_succ {X : Cert.Spec.XS.Idx → EReal} {C : Cert.Spec.CS.Idx → BitVec 8} {B : Cert.Spec.BS.Idx → EReal} {k : ℕ} (hk : k < 3)
    {V : Valuation τ sig (Elt Ideal)} (h : Carried X C B k V) : Carried X C B (k + 1) (STEP V) where
  x := (STEP_main_v16_0 V).trans h.x
  b := (STEP_main_v16_1 V).trans h.b
  i := (STEP_main_v16_2 V).trans h.i
  n := by
    rw [STEP_main_v16_3, step_main_v16_3, h.n]
    funext _
    show BitVec.ofNat 32 k + 1#32 = _
    rw [BitVec.ofNat_add]
  o := fun t o ht => by
    rw [STEP_main_v16_4, step_main_v16_4, h.x, h.b, h.i, h.n]
    have hi : ∀ a : Fin 3, (((![fun _ => BitVec.ofNat 32 k, constantI S_ 32 0#32, constantI S_ 32 0#32] : Fin 3 → (⟨S_, .i32⟩ : BufTy).Contents (Elt Ideal))) a (Shape.Idx.first h_S_)).toInt = ((![k, 0, 0] a : ℕ) : ℤ) := by
      intro a
      interval_cases k <;> match a with
        | ⟨0, _⟩ => rfl
        | ⟨1, _⟩ => rfl
        | ⟨2, _⟩ => rfl
    have hi2 : ∀ a : Fin 2, (((![fun _ => BitVec.ofNat 32 k, constantI S_ 32 0#32] : Fin 2 → (⟨S_, .i32⟩ : BufTy).Contents (Elt Ideal))) a (Shape.Idx.first h_S_)).toInt = ((![k, 0] a : ℕ) : ℤ) := by
      intro a
      interval_cases k <;> match a with
        | ⟨0, _⟩ => rfl
        | ⟨1, _⟩ => rfl
    show Host.dynamicUpdateSlice _ _ _ _ (ix2 t o) = _
    refine (update_row hk _ _ _ hi2 t o).trans ?_
    by_cases e : t.val = k
    · rw [if_pos e]
      refine (congrArg _ (show _ = ix1 o from ?_)).trans ((row_apply _ _ C o).trans ?_)
      · funext a
        obtain rfl : a = 0 := Subsingleton.elim _ _
        rfl
      · unfold Cert.Spec.total Cert.Spec.dot
        refine Finset.sum_congr rfl fun g _ => Finset.sum_congr rfl fun c _ => Finset.sum_congr rfl fun j _ => ?_
        obtain rfl : t = ⟨k, hk⟩ := Fin.ext e
        refine congrArg₂ (fun p q : EReal => p * q) ((slice_row hk _ _ hi g j).trans ?_) rfl
        refine _root_.Idealize.ShloMosaic.shapeCast_apply _ _ _ _ ?_
        rw [rowMajor_val3 _ 2304 2304 rfl rfl, rowMajor_val3 _ 2304 8 rfl rfl]
        show k * 2304 + 0 * 2304 + (8 * g.val + j.val) = k * 2304 + g.val * 8 + j.val
        omega
    · rw [if_neg e]
      exact h.o t o (by omega)

/-- The reference's result is the product, scaled. -/
theorem value (c : Dev nD) : out_main_v20 (STEP^[3] (entryContents preI m c)) = Cert.Spec.result (argX m c) (argC m c) (argB m c) (argS m c) := by
  have h3 : Carried (argX m c) (argC m c) (argB m c) 3 (STEP^[3] (entryContents preI m c)) :=
    carried_succ (by decide) (carried_succ (by decide) (carried_succ (by decide) (carried_zero m c)))
  unfold out_main_v20
  rw [iter_main_arg3]
  funext i
  idx_vars i
  pointwise
  rw [h3.o i0 i1 i0.isLt]
  rfl

end Cert.ReferenceIdeal.Val

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.KernelValue
public import proofs.«01_k».proof.Proof.RefValue
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, leaves its arguments as they were, and ends quiescent. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference end with the same result: both hold `Spec.result` of the arguments. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  refine Eq.trans ?_ (Cert.KernelIdeal.Val.value m c).symm
  obtain ⟨h0, h1, h2, h3⟩ := hagree c
  have e0 : Cert.ReferenceIdeal.Val.argX m' c = Cert.KernelIdeal.Val.argX m c := h0
  have e1 : Cert.ReferenceIdeal.Val.argC m' c = Cert.KernelIdeal.Val.argC m c := h1
  have e2 : Cert.ReferenceIdeal.Val.argB m' c = Cert.KernelIdeal.Val.argB m c := h2
  have e3 : Cert.ReferenceIdeal.Val.argS m' c = Cert.KernelIdeal.Val.argS m c := h3
  refine (Cert.ReferenceIdeal.Val.value m' c).trans ?_
  rw [e0, e1, e2, e3]

/-- All the claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
